-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S16384x2245 : Shape := ⟨2, ![16384, 2245]⟩
abbrev S30x32 : Shape := ⟨2, ![30, 32]⟩
abbrev S40x32 : Shape := ⟨2, ![40, 32]⟩
abbrev S550x32 : Shape := ⟨2, ![550, 32]⟩
abbrev S10x4 : Shape := ⟨2, ![10, 4]⟩
abbrev S300x32 : Shape := ⟨2, ![300, 32]⟩
abbrev S37x37 : Shape := ⟨2, ![37, 37]⟩
abbrev S37 : Shape := ⟨1, ![37]⟩
abbrev S32x1000 : Shape := ⟨2, ![32, 1000]⟩
abbrev S32 : Shape := ⟨1, ![32]⟩
abbrev S32x50 : Shape := ⟨2, ![32, 50]⟩
abbrev S197x197 : Shape := ⟨2, ![197, 197]⟩
abbrev S197 : Shape := ⟨1, ![197]⟩
abbrev S16384x48 : Shape := ⟨2, ![16384, 48]⟩
abbrev S_ : Shape := ⟨0, ![]⟩
abbrev S16384x1 : Shape := ⟨2, ![16384, 1]⟩
abbrev S16384x23 : Shape := ⟨2, ![16384, 23]⟩
abbrev S16384 : Shape := ⟨1, ![16384]⟩
abbrev S1x32 : Shape := ⟨2, ![1, 32]⟩
abbrev S1x4 : Shape := ⟨2, ![1, 4]⟩
abbrev S197x37 : Shape := ⟨2, ![197, 37]⟩

class Facts : Prop where
  slices_S16384x2245_S16384x48_0_0 : S16384x2245.Slices ![0, 0] S16384x48
  bcast_S_S16384x48 : S_.BroadcastsInDim S16384x48 (![] : Fin 0 → Fin S16384x48.rank)
  slices_S16384x2245_S16384x1_0_94 : S16384x2245.Slices ![0, 94] S16384x1
  bcast_S_S16384x1 : S_.BroadcastsInDim S16384x1 (![] : Fin 0 → Fin S16384x1.rank)
  slices_S16384x2245_S16384x23_0_71 : S16384x2245.Slices ![0, 71] S16384x23
  reducesTo_S16384x23_S16384_d1 : S16384x23.ReducesTo [1] S16384
  h_S_ : 0 < S_.numel
  bcast_S_S16384 : S_.BroadcastsInDim S16384 (![] : Fin 0 → Fin S16384.rank)
  slices_S16384x2245_S16384x23_0_48 : S16384x2245.Slices ![0, 48] S16384x23
  bcast_S_S16384x23 : S_.BroadcastsInDim S16384x23 (![] : Fin 0 → Fin S16384x23.rank)
  slices_S550x32_S1x32_0_0 : S550x32.Slices ![0, 0] S1x32
  bcast_S_S1x32 : S_.BroadcastsInDim S1x32 (![] : Fin 0 → Fin S1x32.rank)
  slices_S10x4_S1x4_0_0 : S10x4.Slices ![0, 0] S1x4
  bcast_S_S1x4 : S_.BroadcastsInDim S1x4 (![] : Fin 0 → Fin S1x4.rank)
  bcast_S_S37x37 : S_.BroadcastsInDim S37x37 (![] : Fin 0 → Fin S37x37.rank)
  bcast_S_S37 : S_.BroadcastsInDim S37 (![] : Fin 0 → Fin S37.rank)
  slices_S197x197_S197x37_0_32 : S197x197.Slices ![0, 32] S197x37
  bcast_S_S197x37 : S_.BroadcastsInDim S197x37 (![] : Fin 0 → Fin S197x37.rank)

variable [Facts]

def fn_part2 {F : FTy → Type} [FloatOps F] (main_arg9 : FVec F S37 .f32) (main_arg14 : FVec F S197x197 .f32) (main_v2 : IVec S16384x48 1) (main_v5 : IVec S16384x48 1) (main_v8 : IVec S16384x1 1) (main_v11 : IVec S16384x1 1) (main_v15 : IVec S16384 1) (main_v19 : IVec S16384x23 1) (main_v23 : IVec S1x32 1) (main_v27 : IVec S1x4 1) (main_v30 : IVec S37x37 1) (main_v33 : IVec S37 1) (main_v34 : FVec F S37x37 .f32) (main_v35 : FVec F S37x37 .f32) : IVec S16384x48 1 × IVec S16384x48 1 × IVec S16384x1 1 × IVec S16384x1 1 × IVec S16384 1 × IVec S16384x23 1 × IVec S1x32 1 × IVec S1x4 1 × IVec S37x37 1 × IVec S37 1 × IVec S37x37 1 × IVec S37 1 × IVec S197x37 1 :=
  let main_v36 : IVec S37x37 1 := cmpf .olt main_v34 main_v35
  let main_v37 : FVec F S37 .f32 := Host.absf main_arg9
  let main_cst_11 : FVec F S_ .f32 := constant S_ .f32 0x7F800000#32
  let main_v38 : FVec F S37 .f32 := broadcastInDim S37 ![] bcast_S_S37 main_cst_11
  let main_v39 : IVec S37 1 := cmpf .olt main_v37 main_v38
  let main_v40 : FVec F S197x37 .f32 := (extractStridedSlice S197x37 ![0, 32] · slices_S197x197_S197x37_0_32) main_arg14
  let main_v41 : FVec F S197x37 .f32 := Host.absf main_v40
  let main_cst_12 : FVec F S_ .f32 := constant S_ .f32 0x7F800000#32
  let main_v42 : FVec F S197x37 .f32 := broadcastInDim S197x37 ![] bcast_S_S197x37 main_cst_12
  let main_v43 : IVec S197x37 1 := cmpf .olt main_v41 main_v42
  (main_v2, main_v5, main_v8, main_v11, main_v15, main_v19, main_v23, main_v27, main_v30, main_v33, main_v36, main_v39, main_v43)

def fn_part1 {F : FTy → Type} [FloatOps F] (main_arg3 : FVec F S550x32 .f32) (main_arg4 : FVec F S10x4 .f32) (main_arg6 : FVec F S37x37 .f32) (main_arg7 : FVec F S37 .f32) (main_arg8 : FVec F S37x37 .f32) (main_arg9 : FVec F S37 .f32) (main_arg14 : FVec F S197x197 .f32) (main_v2 : IVec S16384x48 1) (main_v5 : IVec S16384x48 1) (main_v8 : IVec S16384x1 1) (main_v11 : IVec S16384x1 1) (main_v15 : IVec S16384 1) (main_v17 : FVec F S16384x23 .f32) : IVec S16384x48 1 × IVec S16384x48 1 × IVec S16384x1 1 × IVec S16384x1 1 × IVec S16384 1 × IVec S16384x23 1 × IVec S1x32 1 × IVec S1x4 1 × IVec S37x37 1 × IVec S37 1 × IVec S37x37 1 × IVec S37 1 × IVec S197x37 1 :=
  let main_cst_5 : FVec F S_ .f32 := constant S_ .f32 0x7F800000#32
  let main_v18 : FVec F S16384x23 .f32 := broadcastInDim S16384x23 ![] bcast_S_S16384x23 main_cst_5
  let main_v19 : IVec S16384x23 1 := cmpf .olt main_v17 main_v18
  let main_v20 : FVec F S1x32 .f32 := (extractStridedSlice S1x32 ![0, 0] · slices_S550x32_S1x32_0_0) main_arg3
  let main_v21 : FVec F S1x32 .f32 := Host.absf main_v20
  let main_cst_6 : FVec F S_ .f32 := constant S_ .f32 0x7F800000#32
  let main_v22 : FVec F S1x32 .f32 := broadcastInDim S1x32 ![] bcast_S_S1x32 main_cst_6
  let main_v23 : IVec S1x32 1 := cmpf .olt main_v21 main_v22
  let main_v24 : FVec F S1x4 .f32 := (extractStridedSlice S1x4 ![0, 0] · slices_S10x4_S1x4_0_0) main_arg4
  let main_v25 : FVec F S1x4 .f32 := Host.absf main_v24
  let main_cst_7 : FVec F S_ .f32 := constant S_ .f32 0x7F800000#32
  let main_v26 : FVec F S1x4 .f32 := broadcastInDim S1x4 ![] bcast_S_S1x4 main_cst_7
  let main_v27 : IVec S1x4 1 := cmpf .olt main_v25 main_v26
  let main_v28 : FVec F S37x37 .f32 := Host.absf main_arg6
  let main_cst_8 : FVec F S_ .f32 := constant S_ .f32 0x7F800000#32
  let main_v29 : FVec F S37x37 .f32 := broadcastInDim S37x37 ![] bcast_S_S37x37 main_cst_8
  let main_v30 : IVec S37x37 1 := cmpf .olt main_v28 main_v29
  let main_v31 : FVec F S37 .f32 := Host.absf main_arg7
  let main_cst_9 : FVec F S_ .f32 := constant S_ .f32 0x7F800000#32
  let main_v32 : FVec F S37 .f32 := broadcastInDim S37 ![] bcast_S_S37 main_cst_9
  let main_v33 : IVec S37 1 := cmpf .olt main_v31 main_v32
  let main_v34 : FVec F S37x37 .f32 := Host.absf main_arg8
  let main_cst_10 : FVec F S_ .f32 := constant S_ .f32 0x7F800000#32
  let main_v35 : FVec F S37x37 .f32 := broadcastInDim S37x37 ![] bcast_S_S37x37 main_cst_10
  fn_part2 (F := F) main_arg9 main_arg14 main_v2 main_v5 main_v8 main_v11 main_v15 main_v19 main_v23 main_v27 main_v30 main_v33 main_v34 main_v35

def fn {F : FTy → Type} [FloatOps F] (main_arg0 : FVec F S16384x2245 .f32) (main_arg1 : FVec F S30x32 .f32) (main_arg2 : FVec F S40x32 .f32) (main_arg3 : FVec F S550x32 .f32) (main_arg4 : FVec F S10x4 .f32) (main_arg5 : FVec F S300x32 .f32) (main_arg6 : FVec F S37x37 .f32) (main_arg7 : FVec F S37 .f32) (main_arg8 : FVec F S37x37 .f32) (main_arg9 : FVec F S37 .f32) (main_arg10 : FVec F S32x1000 .f32) (main_arg11 : FVec F S32 .f32) (main_arg12 : FVec F S32x50 .f32) (main_arg13 : FVec F S32 .f32) (main_arg14 : FVec F S197x197 .f32) (main_arg15 : FVec F S197 .f32) : IVec S16384x48 1 × IVec S16384x48 1 × IVec S16384x1 1 × IVec S16384x1 1 × IVec S16384 1 × IVec S16384x23 1 × IVec S1x32 1 × IVec S1x4 1 × IVec S37x37 1 × IVec S37 1 × IVec S37x37 1 × IVec S37 1 × IVec S197x37 1 :=
  let main_v0 : FVec F S16384x48 .f32 := (extractStridedSlice S16384x48 ![0, 0] · slices_S16384x2245_S16384x48_0_0) main_arg0
  let main_cst : FVec F S_ .f32 := constant S_ .f32 0x00000000#32
  let main_v1 : FVec F S16384x48 .f32 := broadcastInDim S16384x48 ![] bcast_S_S16384x48 main_cst
  let main_v2 : IVec S16384x48 1 := cmpf .oge main_v0 main_v1
  let main_v3 : FVec F S16384x48 .f32 := (extractStridedSlice S16384x48 ![0, 0] · slices_S16384x2245_S16384x48_0_0) main_arg0
  let main_cst_0 : FVec F S_ .f32 := constant S_ .f32 0x3F800000#32
  let main_v4 : FVec F S16384x48 .f32 := broadcastInDim S16384x48 ![] bcast_S_S16384x48 main_cst_0
  let main_v5 : IVec S16384x48 1 := cmpf .olt main_v3 main_v4
  let main_v6 : FVec F S16384x1 .f32 := (extractStridedSlice S16384x1 ![0, 94] · slices_S16384x2245_S16384x1_0_94) main_arg0
  let main_cst_1 : FVec F S_ .f32 := constant S_ .f32 0x00000000#32
  let main_v7 : FVec F S16384x1 .f32 := broadcastInDim S16384x1 ![] bcast_S_S16384x1 main_cst_1
  let main_v8 : IVec S16384x1 1 := cmpf .oge main_v6 main_v7
  let main_v9 : FVec F S16384x1 .f32 := (extractStridedSlice S16384x1 ![0, 94] · slices_S16384x2245_S16384x1_0_94) main_arg0
  let main_cst_2 : FVec F S_ .f32 := constant S_ .f32 0x3F800000#32
  let main_v10 : FVec F S16384x1 .f32 := broadcastInDim S16384x1 ![] bcast_S_S16384x1 main_cst_2
  let main_v11 : IVec S16384x1 1 := cmpf .olt main_v9 main_v10
  let main_v12 : FVec F S16384x23 .f32 := (extractStridedSlice S16384x23 ![0, 71] · slices_S16384x2245_S16384x23_0_71) main_arg0
  let main_cst_3 : FVec F S_ .f32 := constant S_ .f32 0x00000000#32
  let main_v13 : FVec F S16384 .f32 := (fun x v => Host.reduceAdd x v reducesTo_S16384x23_S16384_d1 h_S_) main_v12 main_cst_3
  let main_cst_4 : FVec F S_ .f32 := constant S_ .f32 0x00000000#32
  let main_v14 : FVec F S16384 .f32 := broadcastInDim S16384 ![] bcast_S_S16384 main_cst_4
  let main_v15 : IVec S16384 1 := cmpf .une main_v13 main_v14
  let main_v16 : FVec F S16384x23 .f32 := (extractStridedSlice S16384x23 ![0, 48] · slices_S16384x2245_S16384x23_0_48) main_arg0
  let main_v17 : FVec F S16384x23 .f32 := Host.absf main_v16
  fn_part1 (F := F) main_arg3 main_arg4 main_arg6 main_arg7 main_arg8 main_arg9 main_arg14 main_v2 main_v5 main_v8 main_v11 main_v15 main_v17
-- ==== Kernel.lean ====
abbrev S16384x2245 : Shape := ⟨2, ![16384, 2245]⟩
abbrev S30x32 : Shape := ⟨2, ![30, 32]⟩
abbrev S40x32 : Shape := ⟨2, ![40, 32]⟩
abbrev S550x32 : Shape := ⟨2, ![550, 32]⟩
abbrev S10x4 : Shape := ⟨2, ![10, 4]⟩
abbrev S300x32 : Shape := ⟨2, ![300, 32]⟩
abbrev S37x37 : Shape := ⟨2, ![37, 37]⟩
abbrev S37 : Shape := ⟨1, ![37]⟩
abbrev S32x1000 : Shape := ⟨2, ![32, 1000]⟩
abbrev S32 : Shape := ⟨1, ![32]⟩
abbrev S32x50 : Shape := ⟨2, ![32, 50]⟩
abbrev S197x197 : Shape := ⟨2, ![197, 197]⟩
abbrev S197 : Shape := ⟨1, ![197]⟩
abbrev S1150 : Shape := ⟨1, ![1150]⟩
abbrev S1x1150 : Shape := ⟨2, ![1, 1150]⟩
abbrev S_ : Shape := ⟨0, ![]⟩
abbrev S23 : Shape := ⟨1, ![23]⟩
abbrev S23x1 : Shape := ⟨2, ![23, 1]⟩
abbrev S23x1150 : Shape := ⟨2, ![23, 1150]⟩
abbrev S50x32 : Shape := ⟨2, ![50, 32]⟩
abbrev S50x23x32 : Shape := ⟨3, ![50, 23, 32]⟩
abbrev S1150x32 : Shape := ⟨2, ![1150, 32]⟩
abbrev S111 : Shape := ⟨1, ![111]⟩
abbrev S1x111 : Shape := ⟨2, ![1, 111]⟩
abbrev S3 : Shape := ⟨1, ![3]⟩
abbrev S3x1 : Shape := ⟨2, ![3, 1]⟩
abbrev S3x111 : Shape := ⟨2, ![3, 111]⟩
abbrev S37x1 : Shape := ⟨2, ![37, 1]⟩
abbrev S1x37 : Shape := ⟨2, ![1, 37]⟩
abbrev S1x1x1x37 : Shape := ⟨4, ![1, 1, 1, 37]⟩
abbrev S1x1x3x37 : Shape := ⟨4, ![1, 1, 3, 37]⟩
abbrev S3x3 : Shape := ⟨2, ![3, 3]⟩
abbrev S3x1x3x1 : Shape := ⟨4, ![3, 1, 3, 1]⟩
abbrev S1x37x1x37 : Shape := ⟨4, ![1, 37, 1, 37]⟩
abbrev S3x37x3x37 : Shape := ⟨4, ![3, 37, 3, 37]⟩
abbrev S111x111 : Shape := ⟨2, ![111, 111]⟩
abbrev S1000x32 : Shape := ⟨2, ![1000, 32]⟩
abbrev S37x197 : Shape := ⟨2, ![37, 197]⟩
abbrev S111x197 : Shape := ⟨2, ![111, 197]⟩
abbrev S1x32 : Shape := ⟨2, ![1, 32]⟩
abbrev S1x197 : Shape := ⟨2, ![1, 197]⟩
abbrev S16384x197 : Shape := ⟨2, ![16384, 197]⟩
abbrev S2048x2245 : Shape := ⟨2, ![2048, 2245]⟩
abbrev S2048x197 : Shape := ⟨2, ![2048, 197]⟩
abbrev S2048x23 : Shape := ⟨2, ![2048, 23]⟩
abbrev S2048x1150 : Shape := ⟨2, ![2048, 1150]⟩
abbrev S2048x1000 : Shape := ⟨2, ![2048, 1000]⟩
abbrev S2048 : Shape := ⟨1, ![2048]⟩
abbrev S2048x1 : Shape := ⟨2, ![2048, 1]⟩
abbrev S1x4 : Shape := ⟨2, ![1, 4]⟩
abbrev S32x37 : Shape := ⟨2, ![32, 37]⟩
abbrev S4x37 : Shape := ⟨2, ![4, 37]⟩
abbrev S1x2048 : Shape := ⟨2, ![1, 2048]⟩
abbrev S23x2048 : Shape := ⟨2, ![23, 2048]⟩
abbrev S24x2048 : Shape := ⟨2, ![24, 2048]⟩
abbrev S8x3x2048 : Shape := ⟨3, ![8, 3, 2048]⟩
abbrev S8x1x2048 : Shape := ⟨3, ![8, 1, 2048]⟩
abbrev S8x4x2048 : Shape := ⟨3, ![8, 4, 2048]⟩
abbrev S8x2048x4 : Shape := ⟨3, ![8, 2048, 4]⟩
abbrev S16384x4 : Shape := ⟨2, ![16384, 4]⟩
abbrev S8x2048x3 : Shape := ⟨3, ![8, 2048, 3]⟩
abbrev S16384x3 : Shape := ⟨2, ![16384, 3]⟩
abbrev S4x111 : Shape := ⟨2, ![4, 111]⟩
abbrev S16384x111 : Shape := ⟨2, ![16384, 111]⟩
abbrev S8x2048x111 : Shape := ⟨3, ![8, 2048, 111]⟩
abbrev S2048x111 : Shape := ⟨2, ![2048, 111]⟩
abbrev S2048x32 : Shape := ⟨2, ![2048, 32]⟩
abbrev S32x197 : Shape := ⟨2, ![32, 197]⟩

abbrev nBuf : Space → Nat
  | .hbm => 108
  | .vmem => 24
  | .smem => 0
  | _ => 0

abbrev bufTy : (tb : Table) → Fin (tcTables nBuf tb) → BufTy
  | .hbm, ⟨0, _⟩ => ⟨S16384x2245, .f32⟩
  | .hbm, ⟨1, _⟩ => ⟨S30x32, .f32⟩
  | .hbm, ⟨2, _⟩ => ⟨S40x32, .f32⟩
  | .hbm, ⟨3, _⟩ => ⟨S550x32, .f32⟩
  | .hbm, ⟨4, _⟩ => ⟨S10x4, .f32⟩
  | .hbm, ⟨5, _⟩ => ⟨S300x32, .f32⟩
  | .hbm, ⟨6, _⟩ => ⟨S37x37, .f32⟩
  | .hbm, ⟨7, _⟩ => ⟨S37, .f32⟩
  | .hbm, ⟨8, _⟩ => ⟨S37x37, .f32⟩
  | .hbm, ⟨9, _⟩ => ⟨S37, .f32⟩
  | .hbm, ⟨10, _⟩ => ⟨S32x1000, .f32⟩
  | .hbm, ⟨11, _⟩ => ⟨S32, .f32⟩
  | .hbm, ⟨12, _⟩ => ⟨S32x50, .f32⟩
  | .hbm, ⟨13, _⟩ => ⟨S32, .f32⟩
  | .hbm, ⟨14, _⟩ => ⟨S197x197, .f32⟩
  | .hbm, ⟨15, _⟩ => ⟨S197, .f32⟩
  | .hbm, ⟨16, _⟩ => ⟨S197x197, .f32⟩
  | .hbm, ⟨17, _⟩ => ⟨S1150, .i32⟩
  | .hbm, ⟨18, _⟩ => ⟨S1x1150, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S1x1150, .i32⟩
  | .hbm, ⟨26, _⟩ => ⟨S1x1150, .i32⟩
  | .hbm, ⟨27, _⟩ => ⟨S_, .i32⟩
  | .hbm, ⟨28, _⟩ => ⟨S1x1150, .i32⟩
  | .hbm, ⟨29, _⟩ => ⟨S1x1150, .i1⟩
  | .hbm, ⟨30, _⟩ => ⟨S_, .i32⟩
  | .hbm, ⟨31, _⟩ => ⟨S1x1150, .i32⟩
  | .hbm, ⟨32, _⟩ => ⟨S1x1150, .i1⟩
  | .hbm, ⟨33, _⟩ => ⟨S_, .i32⟩
  | .hbm, ⟨34, _⟩ => ⟨S_, .i1⟩
  | .hbm, ⟨35, _⟩ => ⟨S1x1150, .i1⟩
  | .hbm, ⟨36, _⟩ => ⟨S1x1150, .i1⟩
  | .hbm, ⟨37, _⟩ => ⟨S1x1150, .i1⟩
  | .hbm, ⟨38, _⟩ => ⟨S1x1150, .i32⟩
  | .hbm, ⟨39, _⟩ => ⟨S1x1150, .i32⟩
  | .hbm, ⟨40, _⟩ => ⟨S1x1150, .i32⟩
  | .hbm, ⟨41, _⟩ => ⟨S23, .i32⟩
  | .hbm, ⟨42, _⟩ => ⟨S23x1, .i32⟩
  | .hbm, ⟨43, _⟩ => ⟨S23x1150, .i32⟩
  | .hbm, ⟨44, _⟩ => ⟨S23x1150, .i32⟩
  | .hbm, ⟨45, _⟩ => ⟨S23x1150, .i1⟩
  | .hbm, ⟨46, _⟩ => ⟨S23x1150, .f32⟩
  | .hbm, ⟨47, _⟩ => ⟨S50x32, .f32⟩
  | .hbm, ⟨48, _⟩ => ⟨S50x23x32, .f32⟩
  | .hbm, ⟨49, _⟩ => ⟨S1150x32, .f32⟩
  | .hbm, ⟨50, _⟩ => ⟨S111, .i32⟩
  | .hbm, ⟨51, _⟩ => ⟨S1x111, .i32⟩
  | .hbm, ⟨52, _⟩ => ⟨S_, .i32⟩
  | .hbm, ⟨53, _⟩ => ⟨S_, .i32⟩
  | .hbm, ⟨54, _⟩ => ⟨S1x111, .i32⟩
  | .hbm, ⟨55, _⟩ => ⟨S1x111, .i32⟩
  | .hbm, ⟨56, _⟩ => ⟨S1x111, .i32⟩
  | .hbm, ⟨57, _⟩ => ⟨S_, .i32⟩
  | .hbm, ⟨58, _⟩ => ⟨S1x111, .i32⟩
  | .hbm, ⟨59, _⟩ => ⟨S1x111, .i1⟩
  | .hbm, ⟨60, _⟩ => ⟨S1x111, .i32⟩
  | .hbm, ⟨61, _⟩ => ⟨S1x111, .i32⟩
  | .hbm, ⟨62, _⟩ => ⟨S_, .i32⟩
  | .hbm, ⟨63, _⟩ => ⟨S1x111, .i32⟩
  | .hbm, ⟨64, _⟩ => ⟨S1x111, .i1⟩
  | .hbm, ⟨65, _⟩ => ⟨S1x111, .i1⟩
  | .hbm, ⟨66, _⟩ => ⟨S_, .i32⟩
  | .hbm, ⟨67, _⟩ => ⟨S1x111, .i32⟩
  | .hbm, ⟨68, _⟩ => ⟨S1x111, .i32⟩
  | .hbm, ⟨69, _⟩ => ⟨S1x111, .i32⟩
  | .hbm, ⟨70, _⟩ => ⟨S3, .i32⟩
  | .hbm, ⟨71, _⟩ => ⟨S3x1, .i32⟩
  | .hbm, ⟨72, _⟩ => ⟨S3x111, .i32⟩
  | .hbm, ⟨73, _⟩ => ⟨S3x111, .i32⟩
  | .hbm, ⟨74, _⟩ => ⟨S3x111, .i1⟩
  | .hbm, ⟨75, _⟩ => ⟨S3x111, .f32⟩
  | .hbm, ⟨76, _⟩ => ⟨S37x1, .f32⟩
  | .hbm, ⟨77, _⟩ => ⟨S37, .f32⟩
  | .hbm, ⟨78, _⟩ => ⟨S1x37, .f32⟩
  | .hbm, ⟨79, _⟩ => ⟨S1x1x1x37, .f32⟩
  | .hbm, ⟨80, _⟩ => ⟨S1x1x3x37, .f32⟩
  | .hbm, ⟨81, _⟩ => ⟨S1x111, .f32⟩
  | .hbm, ⟨82, _⟩ => ⟨S3x111, .f32⟩
  | .hbm, ⟨83, _⟩ => ⟨S3x111, .f32⟩
  | .hbm, ⟨84, _⟩ => ⟨S37x37, .f32⟩
  | .hbm, ⟨85, _⟩ => ⟨S3x3, .i32⟩
  | .hbm, ⟨86, _⟩ => ⟨S3x3, .i32⟩
  | .hbm, ⟨87, _⟩ => ⟨S_, .i32⟩
  | .hbm, ⟨88, _⟩ => ⟨S3x3, .i32⟩
  | .hbm, ⟨89, _⟩ => ⟨S3x3, .i32⟩
  | .hbm, ⟨90, _⟩ => ⟨S3x3, .i1⟩
  | .hbm, ⟨91, _⟩ => ⟨S3x3, .f32⟩
  | .hbm, ⟨92, _⟩ => ⟨S3x1x3x1, .f32⟩
  | .hbm, ⟨93, _⟩ => ⟨S1x37x1x37, .f32⟩
  | .hbm, ⟨94, _⟩ => ⟨S3x37x3x37, .f32⟩
  | .hbm, ⟨95, _⟩ => ⟨S3x37x3x37, .f32⟩
  | .hbm, ⟨96, _⟩ => ⟨S3x37x3x37, .f32⟩
  | .hbm, ⟨97, _⟩ => ⟨S111x111, .f32⟩
  | .hbm, ⟨98, _⟩ => ⟨S1000x32, .f32⟩
  | .hbm, ⟨99, _⟩ => ⟨S37x197, .f32⟩
  | .hbm, ⟨100, _⟩ => ⟨S111x197, .f32⟩
  | .hbm, ⟨101, _⟩ => ⟨S37x37, .f32⟩
  | .hbm, ⟨102, _⟩ => ⟨S1x37, .f32⟩
  | .hbm, ⟨103, _⟩ => ⟨S1x37, .f32⟩
  | .hbm, ⟨104, _⟩ => ⟨S1x32, .f32⟩
  | .hbm, ⟨105, _⟩ => ⟨S1x32, .f32⟩
  | .hbm, ⟨106, _⟩ => ⟨S1x197, .f32⟩
  | .hbm, ⟨107, _⟩ => ⟨S16384x197, .f32⟩
  | .local _ .vmem, ⟨0, _⟩ => ⟨S2048x2245, .f32⟩
  | .local _ .vmem, ⟨1, _⟩ => ⟨S2048x2245, .f32⟩
  | .local _ .vmem, ⟨2, _⟩ => ⟨S30x32, .f32⟩
  | .local _ .vmem, ⟨3, _⟩ => ⟨S40x32, .f32⟩
  | .local _ .vmem, ⟨4, _⟩ => ⟨S550x32, .f32⟩
  | .local _ .vmem, ⟨5, _⟩ => ⟨S10x4, .f32⟩
  | .local _ .vmem, ⟨6, _⟩ => ⟨S300x32, .f32⟩
  | .local _ .vmem, ⟨7, _⟩ => ⟨S37x37, .f32⟩
  | .local _ .vmem, ⟨8, _⟩ => ⟨S1x37, .f32⟩
  | .local _ .vmem, ⟨9, _⟩ => ⟨S37x37, .f32⟩
  | .local _ .vmem, ⟨10, _⟩ => ⟨S1x37, .f32⟩
  | .local _ .vmem, ⟨11, _⟩ => ⟨S1000x32, .f32⟩
  | .local _ .vmem, ⟨12, _⟩ => ⟨S1x32, .f32⟩
  | .local _ .vmem, ⟨13, _⟩ => ⟨S1150x32, .f32⟩
  | .local _ .vmem, ⟨14, _⟩ => ⟨S1x32, .f32⟩
  | .local _ .vmem, ⟨15, _⟩ => ⟨S197x197, .f32⟩
  | .local _ .vmem, ⟨16, _⟩ => ⟨S23x1150, .f32⟩
  | .local _ .vmem, ⟨17, _⟩ => ⟨S3x111, .f32⟩
  | .local _ .vmem, ⟨18, _⟩ => ⟨S3x111, .f32⟩
  | .local _ .vmem, ⟨19, _⟩ => ⟨S111x111, .f32⟩
  | .local _ .vmem, ⟨20, _⟩ => ⟨S111x197, .f32⟩
  | .local _ .vmem, ⟨21, _⟩ => ⟨S1x197, .f32⟩
  | .local _ .vmem, ⟨22, _⟩ => ⟨S2048x197, .f32⟩
  | .local _ .vmem, ⟨23, _⟩ => ⟨S2048x197, .f32⟩
  | _, _ => ⟨S16384x2245, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_c : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_c_1 : Ref sig .tc := ⟨.hbm, 27, rfl⟩
abbrev main_call0_v5 : Ref sig .tc := ⟨.hbm, 28, rfl⟩
abbrev main_call0_v6 : Ref sig .tc := ⟨.hbm, 29, rfl⟩
abbrev main_call0_c_2 : Ref sig .tc := ⟨.hbm, 30, rfl⟩
abbrev main_call0_v7 : Ref sig .tc := ⟨.hbm, 31, rfl⟩
abbrev main_call0_v8 : Ref sig .tc := ⟨.hbm, 32, rfl⟩
abbrev main_call0_c_3 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_c_0 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_c : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_0 : Ref sig .tc := ⟨.hbm, 66, rfl⟩
abbrev main_call1_v12 : Ref sig .tc := ⟨.hbm, 67, rfl⟩
abbrev main_call1_v13 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_c_1 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg21_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem21_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2245 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S30x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S40x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S550x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S300x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S37x37 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x37 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S37x37 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x37 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1000x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1150x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S197x197 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S23x1150 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S3x111 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S3x111 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S111x111 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S111x197 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x197 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S2048x197 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== ReferenceIdeal.lean ====
abbrev S16384x2245 : Shape := ⟨2, ![16384, 2245]⟩
abbrev S30x32 : Shape := ⟨2, ![30, 32]⟩
abbrev S40x32 : Shape := ⟨2, ![40, 32]⟩
abbrev S550x32 : Shape := ⟨2, ![550, 32]⟩
abbrev S10x4 : Shape := ⟨2, ![10, 4]⟩
abbrev S300x32 : Shape := ⟨2, ![300, 32]⟩
abbrev S37x37 : Shape := ⟨2, ![37, 37]⟩
abbrev S37 : Shape := ⟨1, ![37]⟩
abbrev S32x1000 : Shape := ⟨2, ![32, 1000]⟩
abbrev S32 : Shape := ⟨1, ![32]⟩
abbrev S32x50 : Shape := ⟨2, ![32, 50]⟩
abbrev S197x197 : Shape := ⟨2, ![197, 197]⟩
abbrev S197 : Shape := ⟨1, ![197]⟩
abbrev S16384x1 : Shape := ⟨2, ![16384, 1]⟩
abbrev S16384x69 : Shape := ⟨2, ![16384, 69]⟩
abbrev S16384x23 : Shape := ⟨2, ![16384, 23]⟩
abbrev S16384x1150 : Shape := ⟨2, ![16384, 1150]⟩
abbrev S16384x1000 : Shape := ⟨2, ![16384, 1000]⟩
abbrev S16384 : Shape := ⟨1, ![16384]⟩
abbrev S_ : Shape := ⟨0, ![]⟩
abbrev S16384x32 : Shape := ⟨2, ![16384, 32]⟩
abbrev S16384x3x23 : Shape := ⟨3, ![16384, 3, 23]⟩
abbrev S16384x23x3 : Shape := ⟨3, ![16384, 23, 3]⟩
abbrev S16384x23x1 : Shape := ⟨3, ![16384, 23, 1]⟩
abbrev S16384x23x32 : Shape := ⟨3, ![16384, 23, 32]⟩
abbrev S16384x23x4 : Shape := ⟨3, ![16384, 23, 4]⟩
abbrev S16384x23x37 : Shape := ⟨3, ![16384, 23, 37]⟩
abbrev S1x1x37 : Shape := ⟨3, ![1, 1, 37]⟩
abbrev S16384x37 : Shape := ⟨2, ![16384, 37]⟩
abbrev S16384x50x23 : Shape := ⟨3, ![16384, 50, 23]⟩
abbrev S16384x23x50 : Shape := ⟨3, ![16384, 23, 50]⟩
abbrev S50x32 : Shape := ⟨2, ![50, 32]⟩
abbrev S1x1x32 : Shape := ⟨3, ![1, 1, 32]⟩
abbrev S1000x32 : Shape := ⟨2, ![1000, 32]⟩
abbrev S1x32 : Shape := ⟨2, ![1, 32]⟩
abbrev S16384x197 : Shape := ⟨2, ![16384, 197]⟩
abbrev S1x197 : Shape := ⟨2, ![1, 197]⟩

abbrev nBuf : Space → Nat
  | .hbm => 163
  | .vmem => 0
  | .smem => 0
  | _ => 0

abbrev hbmTy0_0 (i : Nat) : BufTy := match i % 128 with
  | 0 => ⟨S16384x2245, .f32⟩
  | 1 => ⟨S30x32, .f32⟩
  | 2 => ⟨S40x32, .f32⟩
  | 3 => ⟨S550x32, .f32⟩
  | 4 => ⟨S10x4, .f32⟩
  | 5 => ⟨S300x32, .f32⟩
  | 6 => ⟨S37x37, .f32⟩
  | 7 => ⟨S37, .f32⟩
  | 8 => ⟨S37x37, .f32⟩
  | 9 => ⟨S37, .f32⟩
  | 10 => ⟨S32x1000, .f32⟩
  | 11 => ⟨S32, .f32⟩
  | 12 => ⟨S32x50, .f32⟩
  | 13 => ⟨S32, .f32⟩
  | 14 => ⟨S197x197, .f32⟩
  | 15 => ⟨S197, .f32⟩
  | 16 => ⟨S16384x1, .f32⟩
  | 17 => ⟨S16384x1, .f32⟩
  | 18 => ⟨S16384x69, .f32⟩
  | 19 => ⟨S16384x23, .f32⟩
  | 20 => ⟨S16384x1, .f32⟩
  | 21 => ⟨S16384x1150, .f32⟩
  | 22 => ⟨S16384x1000, .f32⟩
  | 23 => ⟨S16384, .f32⟩
  | 24 => ⟨S16384, .i32⟩
  | 25 => ⟨S_, .i32⟩
  | 26 => ⟨S16384, .i32⟩
  | 27 => ⟨S16384, .i1⟩
  | 28 => ⟨S_, .i32⟩
  | 29 => ⟨S16384, .i32⟩
  | 30 => ⟨S16384, .i32⟩
  | 31 => ⟨S16384, .i32⟩
  | 32 => ⟨S16384x1, .i32⟩
  | 33 => ⟨S16384x32, .f32⟩
  | 34 => ⟨S16384, .f32⟩
  | 35 => ⟨S16384, .i32⟩
  | 36 => ⟨S_, .i32⟩
  | 37 => ⟨S16384, .i32⟩
  | 38 => ⟨S16384, .i1⟩
  | 39 => ⟨S_, .i32⟩
  | 40 => ⟨S16384, .i32⟩
  | 41 => ⟨S16384, .i32⟩
  | 42 => ⟨S16384, .i32⟩
  | 43 => ⟨S16384x1, .i32⟩
  | 44 => ⟨S16384x32, .f32⟩
  | 45 => ⟨S16384, .f32⟩
  | 46 => ⟨S16384, .i32⟩
  | 47 => ⟨S_, .i32⟩
  | 48 => ⟨S16384, .i32⟩
  | 49 => ⟨S16384, .i1⟩
  | 50 => ⟨S_, .i32⟩
  | 51 => ⟨S16384, .i32⟩
  | 52 => ⟨S16384, .i32⟩
  | 53 => ⟨S16384, .i32⟩
  | 54 => ⟨S16384x1, .i32⟩
  | 55 => ⟨S16384x32, .f32⟩
  | 56 => ⟨S16384x3x23, .f32⟩
  | 57 => ⟨S16384x23x3, .f32⟩
  | 58 => ⟨S16384x23x1, .f32⟩
  | 59 => ⟨S16384x23, .f32⟩
  | 60 => ⟨S16384x23, .i32⟩
  | 61 => ⟨S16384x23x1, .f32⟩
  | 62 => ⟨S16384x23, .f32⟩
  | 63 => ⟨S16384x23, .i32⟩
  | 64 => ⟨S16384x23x1, .f32⟩
  | 65 => ⟨S16384x23, .f32⟩
  | 66 => ⟨S16384x23x1, .f32⟩
  | 67 => ⟨S_, .i32⟩
  | 68 => ⟨S16384x23, .i32⟩
  | 69 => ⟨S16384x23, .i1⟩
  | 70 => ⟨S_, .i32⟩
  | 71 => ⟨S16384x23, .i32⟩
  | 72 => ⟨S16384x23, .i32⟩
  | 73 => ⟨S16384x23, .i32⟩
  | 74 => ⟨S16384x23x1, .i32⟩
  | 75 => ⟨S16384x23x32, .f32⟩
  | 76 => ⟨S_, .i32⟩
  | 77 => ⟨S16384x23, .i32⟩
  | 78 => ⟨S16384x23, .i1⟩
  | 79 => ⟨S_, .i32⟩
  | 80 => ⟨S16384x23, .i32⟩
  | 81 => ⟨S16384x23, .i32⟩
  | 82 => ⟨S16384x23, .i32⟩
  | 83 => ⟨S16384x23x1, .i32⟩
  | 84 => ⟨S16384x23x4, .f32⟩
  | 85 => ⟨S16384x23x37, .f32⟩
  | 86 => ⟨S37x37, .f32⟩
  | 87 => ⟨S16384x23x37, .f32⟩
  | 88 => ⟨S1x1x37, .f32⟩
  | 89 => ⟨S16384x23x37, .f32⟩
  | 90 => ⟨S16384x23x37, .f32⟩
  | 91 => ⟨S_, .f32⟩
  | 92 => ⟨S16384x23x37, .f32⟩
  | 93 => ⟨S16384x23x37, .i1⟩
  | 94 => ⟨S_, .f32⟩
  | 95 => ⟨S16384x23x37, .f32⟩
  | 96 => ⟨S16384x23x37, .f32⟩
  | 97 => ⟨S16384x23x37, .f32⟩
  | 98 => ⟨S37x37, .f32⟩
  | 99 => ⟨S16384x23x37, .f32⟩
  | 100 => ⟨S1x1x37, .f32⟩
  | 101 => ⟨S16384x23x37, .f32⟩
  | 102 => ⟨S16384x23x37, .f32⟩
  | 103 => ⟨S_, .f32⟩
  | 104 => ⟨S16384x23x37, .f32⟩
  | 105 => ⟨S16384x23x37, .i1⟩
  | 106 => ⟨S_, .f32⟩
  | 107 => ⟨S16384x23x37, .f32⟩
  | 108 => ⟨S16384x23x37, .f32⟩
  | 109 => ⟨S16384x23x37, .f32⟩
  | 110 => ⟨S_, .f32⟩
  | 111 => ⟨S16384x23, .f32⟩
  | 112 => ⟨S16384x23, .i1⟩
  | 113 => ⟨S16384x23, .i1⟩
  | 114 => ⟨S16384x23x1, .i1⟩
  | 115 => ⟨S_, .f32⟩
  | 116 => ⟨S_, .f32⟩
  | 117 => ⟨S16384x23x37, .i1⟩
  | 118 => ⟨S16384x23x37, .f32⟩
  | 119 => ⟨S16384x23x37, .f32⟩
  | 120 => ⟨S_, .f32⟩
  | 121 => ⟨S16384, .f32⟩
  | 122 => ⟨S_, .f32⟩
  | 123 => ⟨S16384x37, .f32⟩
  | 124 => ⟨S16384x1, .f32⟩
  | 125 => ⟨S16384x37, .f32⟩
  | 126 => ⟨S16384x37, .f32⟩
  | 127 => ⟨S16384x50x23, .f32⟩
  | _ => ⟨S16384x2245, .f32⟩

abbrev hbmTy0_1 (i : Nat) : BufTy := match i % 128 with
  | 0 => ⟨S16384x23x50, .f32⟩
  | 1 => ⟨S50x32, .f32⟩
  | 2 => ⟨S16384x23x32, .f32⟩
  | 3 => ⟨S1x1x32, .f32⟩
  | 4 => ⟨S16384x23x32, .f32⟩
  | 5 => ⟨S16384x23x32, .f32⟩
  | 6 => ⟨S16384x23x1, .i1⟩
  | 7 => ⟨S_, .f32⟩
  | 8 => ⟨S_, .f32⟩
  | 9 => ⟨S16384x23x32, .i1⟩
  | 10 => ⟨S16384x23x32, .f32⟩
  | 11 => ⟨S16384x23x32, .f32⟩
  | 12 => ⟨S_, .f32⟩
  | 13 => ⟨S16384x32, .f32⟩
  | 14 => ⟨S16384x1, .f32⟩
  | 15 => ⟨S16384x32, .f32⟩
  | 16 => ⟨S16384x32, .f32⟩
  | 17 => ⟨S1000x32, .f32⟩
  | 18 => ⟨S16384x32, .f32⟩
  | 19 => ⟨S1x32, .f32⟩
  | 20 => ⟨S16384x32, .f32⟩
  | 21 => ⟨S16384x32, .f32⟩
  | 22 => ⟨S16384x197, .f32⟩
  | 23 => ⟨S197x197, .f32⟩
  | 24 => ⟨S16384x197, .f32⟩
  | 25 => ⟨S1x197, .f32⟩
  | 26 => ⟨S16384x197, .f32⟩
  | 27 => ⟨S16384x197, .f32⟩
  | 28 => ⟨S_, .f32⟩
  | 29 => ⟨S16384x197, .f32⟩
  | 30 => ⟨S16384x197, .i1⟩
  | 31 => ⟨S_, .f32⟩
  | 32 => ⟨S16384x197, .f32⟩
  | 33 => ⟨S16384x197, .f32⟩
  | 34 => ⟨S16384x197, .f32⟩
  | _ => ⟨S16384x2245, .f32⟩

abbrev hbmTy (i : Nat) : BufTy := match i / 128 with
  | 0 => hbmTy0_0 i
  | 1 => hbmTy0_1 i
  | _ => ⟨S16384x2245, .f32⟩

abbrev bufTy : (tb : Table) → Fin (tcTables nBuf tb) → BufTy
  | .hbm, ⟨i, _⟩ => hbmTy i
  | _, _ => ⟨S16384x2245, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_1 : Ref sig .tc := ⟨.hbm, 36, rfl⟩
abbrev main_v18 : Ref sig .tc := ⟨.hbm, 37, rfl⟩
abbrev main_v19 : Ref sig .tc := ⟨.hbm, 38, rfl⟩
abbrev main_c_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_3 : Ref sig .tc := ⟨.hbm, 47, rfl⟩
abbrev main_v27 : Ref sig .tc := ⟨.hbm, 48, rfl⟩
abbrev main_v28 : Ref sig .tc := ⟨.hbm, 49, rfl⟩
abbrev main_c_4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_5 : Ref sig .tc := ⟨.hbm, 67, rfl⟩
abbrev main_v45 : Ref sig .tc := ⟨.hbm, 68, rfl⟩
abbrev main_v46 : Ref sig .tc := ⟨.hbm, 69, rfl⟩
abbrev main_c_6 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_7 : Ref sig .tc := ⟨.hbm, 76, rfl⟩
abbrev main_v52 : Ref sig .tc := ⟨.hbm, 77, rfl⟩
abbrev main_v53 : Ref sig .tc := ⟨.hbm, 78, rfl⟩
abbrev main_c_8 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call0_cst : Ref sig .tc := ⟨.hbm, 91, rfl⟩
abbrev main_call0_v0 : Ref sig .tc := ⟨.hbm, 92, rfl⟩
abbrev main_call0_v1 : Ref sig .tc := ⟨.hbm, 93, rfl⟩
abbrev main_call0_cst_0 : Ref sig .tc := ⟨.hbm, 94, rfl⟩
abbrev main_call0_v2 : Ref sig .tc := ⟨.hbm, 95, rfl⟩
abbrev main_call0_v3 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_call1_cst : Ref sig .tc := ⟨.hbm, 103, rfl⟩
abbrev main_call1_v0 : Ref sig .tc := ⟨.hbm, 104, rfl⟩
abbrev main_call1_v1 : Ref sig .tc := ⟨.hbm, 105, rfl⟩
abbrev main_call1_cst_0 : Ref sig .tc := ⟨.hbm, 106, rfl⟩
abbrev main_call1_v2 : Ref sig .tc := ⟨.hbm, 107, rfl⟩
abbrev main_call1_v3 : Ref sig .tc := ⟨.hbm, 108, rfl⟩
abbrev main_v71 : Ref sig .tc := ⟨.hbm, 109, rfl⟩
abbrev main_cst : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_cst_9 : Ref sig .tc := ⟨.hbm, 115, rfl⟩
abbrev main_call2_v0 : Ref sig .tc := ⟨.hbm, 116, rfl⟩
abbrev main_call2_v1 : Ref sig .tc := ⟨.hbm, 117, rfl⟩
abbrev main_call2_v2 : Ref sig .tc := ⟨.hbm, 118, rfl⟩
abbrev main_v76 : Ref sig .tc := ⟨.hbm, 119, rfl⟩
abbrev main_cst_10 : Ref sig .tc := ⟨.hbm, 120, rfl⟩
abbrev main_v77 : Ref sig .tc := ⟨.hbm, 121, rfl⟩
abbrev main_cst_11 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_cst_12 : Ref sig .tc := ⟨.hbm, 135, rfl⟩
abbrev main_call3_v0 : Ref sig .tc := ⟨.hbm, 136, rfl⟩
abbrev main_call3_v1 : Ref sig .tc := ⟨.hbm, 137, rfl⟩
abbrev main_call3_v2 : Ref sig .tc := ⟨.hbm, 138, rfl⟩
abbrev main_v90 : Ref sig .tc := ⟨.hbm, 139, rfl⟩
abbrev main_cst_13 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_call4_cst : Ref sig .tc := ⟨.hbm, 156, rfl⟩
abbrev main_call4_v0 : Ref sig .tc := ⟨.hbm, 157, rfl⟩
abbrev main_call4_v1 : Ref sig .tc := ⟨.hbm, 158, rfl⟩
abbrev main_call4_cst_0 : Ref sig .tc := ⟨.hbm, 159, rfl⟩
abbrev main_call4_v2 : Ref sig .tc := ⟨.hbm, 160, rfl⟩
abbrev main_call4_v3 : Ref sig .tc := ⟨.hbm, 161, rfl⟩
abbrev main_v106 : Ref sig .tc := ⟨.hbm, 162, rfl⟩

abbrev nD : Nat := 1
abbrev τ : Topo := Topo.v7x

variable {F : FTy → Type} [FloatOps F]
-- ==== Proof.KernelIdealFrame.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import Mathlib.Tactic.IntervalCases

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The sixteen argument arrays. -/
abbrev argRefs : List (Ref sig .tc) :=
  [main_arg0, main_arg1, main_arg2, main_arg3, main_arg4, main_arg5, main_arg6, main_arg7, main_arg8, main_arg9, main_arg10, main_arg11, main_arg12, main_arg13, main_arg14, main_arg15]

/-- No host operation before the region writes an argument array: the region finds each as launched. -/
theorem V_arg (c : Dev nD) (b : Ref sig .tc) (hb : b ∈ argRefs) : V m c b = m ((c : Thread nD τ).loc b) :=
  StableHlo.after_of_forall_not_mem (b := Proc.devRef .tc b) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall,
      StableHlo.nullary_writes, StableHlo.unary_writes, StableHlo.binary_writes, StableHlo.ternary_writes,
      StableHlo.quaternary_writes, StableHlo.reshape_writes, StableHlo.binaryIndexed_writes, StableHlo.unaryIndexed_writes, StableHlo.nary_writes, Finset.mem_singleton]
    repeat' apply And.intro
    all_goals exact StableHlo.devRef_ne_of_ne (ne_of_mem_of_not_mem hb (by decide))))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The frame claim's post from the frame run's -/

set_option maxHeartbeats 1320000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).1 0).trans (((dats 0 c).arrAt_in 0 rfl _).trans ((hA c 0).trans (V_arg m c main_arg0 (by decide)))),
      ((h c).1 1).trans (((dats 0 c).arrAt_in 1 rfl _).trans ((hA c 1).trans (V_arg m c main_arg1 (by decide)))),
      ((h c).1 2).trans (((dats 0 c).arrAt_in 2 rfl _).trans ((hA c 2).trans (V_arg m c main_arg2 (by decide)))),
      ((h c).1 3).trans (((dats 0 c).arrAt_in 3 rfl _).trans ((hA c 3).trans (V_arg m c main_arg3 (by decide)))),
      ((h c).1 4).trans (((dats 0 c).arrAt_in 4 rfl _).trans ((hA c 4).trans (V_arg m c main_arg4 (by decide)))),
      ((h c).1 5).trans (((dats 0 c).arrAt_in 5 rfl _).trans ((hA c 5).trans (V_arg m c main_arg5 (by decide)))),
      ((h c).2 main_arg6 (Pipeline.mem_restRefs_of main_arg6 (by decide) (by decide))).trans (V_arg m c main_arg6 (by decide)),
      ((h c).2 main_arg7 (Pipeline.mem_restRefs_of main_arg7 (by decide) (by decide))).trans (V_arg m c main_arg7 (by decide)),
      ((h c).2 main_arg8 (Pipeline.mem_restRefs_of main_arg8 (by decide) (by decide))).trans (V_arg m c main_arg8 (by decide)),
      ((h c).2 main_arg9 (Pipeline.mem_restRefs_of main_arg9 (by decide) (by decide))).trans (V_arg m c main_arg9 (by decide)),
      ((h c).2 main_arg10 (Pipeline.mem_restRefs_of main_arg10 (by decide) (by decide))).trans (V_arg m c main_arg10 (by decide)),
      ((h c).2 main_arg11 (Pipeline.mem_restRefs_of main_arg11 (by decide) (by decide))).trans (V_arg m c main_arg11 (by decide)),
      ((h c).2 main_arg12 (Pipeline.mem_restRefs_of main_arg12 (by decide) (by decide))).trans (V_arg m c main_arg12 (by decide)),
      ((h c).2 main_arg13 (Pipeline.mem_restRefs_of main_arg13 (by decide) (by decide))).trans (V_arg m c main_arg13 (by decide)),
      ((h c).2 main_arg14 (Pipeline.mem_restRefs_of main_arg14 (by decide) (by decide))).trans (V_arg m c main_arg14 (by decide)),
      ((h c).2 main_arg15 (Pipeline.mem_restRefs_of main_arg15 (by decide) (by decide))).trans (V_arg m c main_arg15 (by decide))⟩) h

/-! ## The body's accesses -/

abbrev r0_0 : Rect S2048x2245 := Rect.unit (s := S2048x2245) ![0, 48] S2048x23.size inb_S2048x2245_S2048x23_0_48
abbrev r0_1 : Rect S2048x2245 := Rect.unit (s := S2048x2245) ![0, 71] S2048x23.size inb_S2048x2245_S2048x23_0_71
abbrev r0_2 : Rect S2048x2245 := Rect.unit (s := S2048x2245) ![0, 95] S2048x1150.size inb_S2048x2245_S2048x1150_0_95
abbrev r0_3 : Rect S2048x2245 := Rect.unit (s := S2048x2245) ![0, 1245] S2048x1000.size inb_S2048x2245_S2048x1000_0_1245
abbrev r0_4 : Rect S550x32 := Rect.unit (s := S550x32) ![0, 0] S1x32.size inb_S550x32_S1x32_0_0
abbrev r0_5 : Rect S10x4 := Rect.unit (s := S10x4) ![0, 0] S1x4.size inb_S10x4_S1x4_0_0
abbrev r0_6 : Rect S37x37 := Rect.unit (s := S37x37) ![0, 0] S32x37.size inb_S37x37_S32x37_0_0
abbrev r0_7 : Rect S37x37 := Rect.unit (s := S37x37) ![32, 0] S4x37.size inb_S37x37_S4x37_32_0
abbrev r0_8 : Rect S1x37 := Rect.unit (s := S1x37) ![0, 0] S1x37.size inb_S1x37_S1x37_0_0
abbrev r0_9 : Rect S3x111 := Rect.unit (s := S3x111) ![0, 0] S3x111.size inb_S3x111_S3x111_0_0
abbrev r0_10 : Rect S111x111 := Rect.unit (s := S111x111) ![0, 0] S111x111.size inb_S111x111_S111x111_0_0
abbrev r0_11 : Rect S23x1150 := Rect.unit (s := S23x1150) ![0, 0] S23x1150.size inb_S23x1150_S23x1150_0_0
abbrev r0_12 : Rect S1150x32 := Rect.unit (s := S1150x32) ![0, 0] S1150x32.size inb_S1150x32_S1150x32_0_0
abbrev r0_13 : Rect S1x32 := Rect.unit (s := S1x32) ![0, 0] S1x32.size inb_S1x32_S1x32_0_0
abbrev r0_14 : Rect S1000x32 := Rect.unit (s := S1000x32) ![0, 0] S1000x32.size inb_S1000x32_S1000x32_0_0
abbrev r0_15 : Rect S30x32 := Rect.unit (s := S30x32) ![0, 0] S1x32.size inb_S30x32_S1x32_0_0
abbrev r0_16 : Rect S197x197 := Rect.unit (s := S197x197) ![0, 0] S32x197.size inb_S197x197_S32x197_0_0
abbrev r0_17 : Rect S300x32 := Rect.unit (s := S300x32) ![0, 0] S1x32.size inb_S300x32_S1x32_0_0
abbrev r0_18 : Rect S197x197 := Rect.unit (s := S197x197) ![69, 0] S32x197.size inb_S197x197_S32x197_69_0
abbrev r0_19 : Rect S40x32 := Rect.unit (s := S40x32) ![0, 0] S1x32.size inb_S40x32_S1x32_0_0
abbrev r0_20 : Rect S197x197 := Rect.unit (s := S197x197) ![101, 0] S32x197.size inb_S197x197_S32x197_101_0
abbrev r0_21 : Rect S111x197 := Rect.unit (s := S111x197) ![0, 0] S111x197.size inb_S111x197_S111x197_0_0
abbrev r0_22 : Rect S197x197 := Rect.unit (s := S197x197) ![133, 0] S32x197.size inb_S197x197_S32x197_133_0
abbrev r0_23 : Rect S197x197 := Rect.unit (s := S197x197) ![165, 0] S32x197.size inb_S197x197_S32x197_165_0
abbrev r0_24 : Rect S1x197 := Rect.unit (s := S1x197) ![0, 0] S1x197.size inb_S1x197_S1x197_0_0
abbrev r0_25 : Rect S2048x197 := Rect.unit (s := S2048x197) ![0, 0] S2048x197.size inb_S2048x197_S2048x197_0_0

/-! ## What the body leaves in each output window's buffer -/

/-! ### Values of the body that the stores' payloads, spelt out, would write more than once

    Each is a vector the body binds (often a part call's result), stated over the input windows' blocks and
    numbered on from the skeleton's payload functions (`k0_pay15` …, after `k0_pay14`), so that
    `out0_W` and the values after it name it instead of spelling it out (`unfold_out out0_W` opens a canon
    with them, `unfold_payloads` opens them with the payloads); the comment after each is the printed function's
    name for the value (a count appended where that name is bound again). -/

def k0_pay15 (x0 : Vec F S2048x2245 .f32) (x1 : Vec F S30x32 .f32) (x2 : Vec F S40x32 .f32) (x3 : Vec F S550x32 .f32) (x4 : Vec F S10x4 .f32) (x5 : Vec F S300x32 .f32) (x6 : Vec F S37x37 .f32) (x7 : Vec F S1x37 .f32) (x8 : Vec F S37x37 .f32) (x9 : Vec F S1x37 .f32) (x10 : Vec F S1000x32 .f32) (x11 : Vec F S1x32 .f32) (x12 : Vec F S1150x32 .f32) (x13 : Vec F S1x32 .f32) (x14 : Vec F S197x197 .f32) (x15 : Vec F S23x1150 .f32) (x16 : Vec F S3x111 .f32) (x17 : Vec F S3x111 .f32) (x18 : Vec F S111x111 .f32) (x19 : Vec F S111x197 .f32) (x20 : Vec F S1x197 .f32) : FVec F S2048x23 .f32 :=
  k0_pay2 (View.ld x0 r0_1) -- `v7`
def k0_pay16 (x0 : Vec F S2048x2245 .f32) (x1 : Vec F S30x32 .f32) (x2 : Vec F S40x32 .f32) (x3 : Vec F S550x32 .f32) (x4 : Vec F S10x4 .f32) (x5 : Vec F S300x32 .f32) (x6 : Vec F S37x37 .f32) (x7 : Vec F S1x37 .f32) (x8 : Vec F S37x37 .f32) (x9 : Vec F S1x37 .f32) (x10 : Vec F S1000x32 .f32) (x11 : Vec F S1x32 .f32) (x12 : Vec F S1150x32 .f32) (x13 : Vec F S1x32 .f32) (x14 : Vec F S197x197 .f32) (x15 : Vec F S23x1150 .f32) (x16 : Vec F S3x111 .f32) (x17 : Vec F S3x111 .f32) (x18 : Vec F S111x111 .f32) (x19 : Vec F S111x197 .f32) (x20 : Vec F S1x197 .f32) : FVec F S2048x1 .f32 :=
  k0_pay4 (View.ld x0 r0_1) -- `v13`

/-- Window 21's staging buffer after the body, from the input windows' blocks: its 1 store as pieces, LAST
    FIRST (Lib/Pipeline/FrameBody.lean `View.canon`; the payloads are the skeleton's and the values stated above). -/
def out0_21 (x0 : Vec F S2048x2245 .f32) (x1 : Vec F S30x32 .f32) (x2 : Vec F S40x32 .f32) (x3 : Vec F S550x32 .f32) (x4 : Vec F S10x4 .f32) (x5 : Vec F S300x32 .f32) (x6 : Vec F S37x37 .f32) (x7 : Vec F S1x37 .f32) (x8 : Vec F S37x37 .f32) (x9 : Vec F S1x37 .f32) (x10 : Vec F S1000x32 .f32) (x11 : Vec F S1x32 .f32) (x12 : Vec F S1150x32 .f32) (x13 : Vec F S1x32 .f32) (x14 : Vec F S197x197 .f32) (x15 : Vec F S23x1150 .f32) (x16 : Vec F S3x111 .f32) (x17 : Vec F S3x111 .f32) (x18 : Vec F S111x111 .f32) (x19 : Vec F S111x197 .f32) (x20 : Vec F S1x197 .f32) : Vec F S2048x197 .f32 :=
  View.canon [⟨r0_25, k0_pay1 (k0_pay11 (k0_pay3 (View.ld x0 r0_1)) (k0_pay16 x0 x1 x2 x3 x4 x5 x6 x7 x8 x9 x10 x11 x12 x13 x14 x15 x16 x17 x18 x19 x20) (k0_pay10 (View.ld x0 r0_2) (k0_pay15 x0 x1 x2 x3 x4 x5 x6 x7 x8 x9 x10 x11 x12 x13 x14 x15 x16 x17 x18 x19 x20) (View.ld x15 r0_11) (View.ld x12 r0_12)) (View.ld x13 r0_13)) (k0_pay12 (View.ld x0 r0_3) (View.ld x10 r0_14) (View.ld x11 r0_13)) (k0_pay13 (View.ld x1 r0_15) (View.ld x14 r0_16) (View.ld x5 r0_17) (View.ld x14 r0_18) (View.ld x2 r0_19) (View.ld x14 r0_20)) (k0_pay14 (k0_pay9 (k0_pay15 x0 x1 x2 x3 x4 x5 x6 x7 x8 x9 x10 x11 x12 x13 x14 x15 x16 x17 x18 x19 x20) (k0_pay16 x0 x1 x2 x3 x4 x5 x6 x7 x8 x9 x10 x11 x12 x13 x14 x15 x16 x17 x18 x19 x20) (k0_pay5 (View.ld x3 r0_4) (View.ld x4 r0_5) (View.ld x6 r0_6) (View.ld x6 r0_7) (View.ld x7 r0_8)) (k0_pay6 (View.ld x9 r0_8)) (k0_pay7 (F := F)) (k0_pay8 (View.ld x0 r0_0)) (View.ld x16 r0_9) (View.ld x18 r0_10) (View.ld x17 r0_9)) (View.ld x19 r0_21)) (View.ld x14 r0_22) (View.ld x14 r0_23) (View.ld x20 r0_24)⟩]

/-- Its stores tile the buffer (checked by evaluation), so they cover it. -/
theorem cover0_21 (p0 : Vec F S2048x197 .f32) (y : S2048x197.Idx) :
    ∃ pc ∈ ([⟨r0_25, p0⟩] : List (View.Piece (Elt F) S2048x197 .f32)), y ∈ pc.1.set :=
  View.cover_of_tiled [⟨r0_25, p0⟩] S2048x197.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S2048x2245 .f32) (harg1 : arg1.IsWhole) (arg2 : Memref sig .tc .vmem S30x32 .f32) (harg2 : arg2.IsWhole) (arg3 : Memref sig .tc .vmem S40x32 .f32) (harg3 : arg3.IsWhole) (arg4 : Memref sig .tc .vmem S550x32 .f32) (harg4 : arg4.IsWhole) (arg5 : Memref sig .tc .vmem S10x4 .f32) (harg5 : arg5.IsWhole) (arg6 : Memref sig .tc .vmem S300x32 .f32) (harg6 : arg6.IsWhole) (arg7 : Memref sig .tc .vmem S37x37 .f32) (harg7 : arg7.IsWhole) (arg8 : Memref sig .tc .vmem S1x37 .f32) (harg8 : arg8.IsWhole) (arg9 : Memref sig .tc .vmem S37x37 .f32) (harg9 : arg9.IsWhole) (arg10 : Memref sig .tc .vmem S1x37 .f32) (harg10 : arg10.IsWhole) (arg11 : Memref sig .tc .vmem S1000x32 .f32) (harg11 : arg11.IsWhole) (arg12 : Memref sig .tc .vmem S1x32 .f32) (harg12 : arg12.IsWhole) (arg13 : Memref sig .tc .vmem S1150x32 .f32) (harg13 : arg13.IsWhole) (arg14 : Memref sig .tc .vmem S1x32 .f32) (harg14 : arg14.IsWhole) (arg15 : Memref sig .tc .vmem S197x197 .f32) (harg15 : arg15.IsWhole) (arg16 : Memref sig .tc .vmem S23x1150 .f32) (harg16 : arg16.IsWhole) (arg17 : Memref sig .tc .vmem S3x111 .f32) (harg17 : arg17.IsWhole) (arg18 : Memref sig .tc .vmem S3x111 .f32) (harg18 : arg18.IsWhole) (arg19 : Memref sig .tc .vmem S111x111 .f32) (harg19 : arg19.IsWhole) (arg20 : Memref sig .tc .vmem S111x197 .f32) (harg20 : arg20.IsWhole) (arg21 : Memref sig .tc .vmem S1x197 .f32) (harg21 : arg21.IsWhole) (arg22 : Memref sig .tc .vmem S2048x197 .f32) (harg22 : arg22.IsWhole)
    (x0 : Vec F S2048x2245 .f32) (x1 : Vec F S30x32 .f32) (x2 : Vec F S40x32 .f32) (x3 : Vec F S550x32 .f32) (x4 : Vec F S10x4 .f32) (x5 : Vec F S300x32 .f32) (x6 : Vec F S37x37 .f32) (x7 : Vec F S1x37 .f32) (x8 : Vec F S37x37 .f32) (x9 : Vec F S1x37 .f32) (x10 : Vec F S1000x32 .f32) (x11 : Vec F S1x32 .f32) (x12 : Vec F S1150x32 .f32) (x13 : Vec F S1x32 .f32) (x14 : Vec F S197x197 .f32) (x15 : Vec F S23x1150 .f32) (x16 : Vec F S3x111 .f32) (x17 : Vec F S3x111 .f32) (x18 : Vec F S111x111 .f32) (x19 : Vec F S111x197 .f32) (x20 : Vec F S1x197 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare (out0_21 x0 x1 x2 x3 x4 x5 x6 x7 x8 x9 x10 x11 x12 x13 x14 x15 x16 x17 x18 x19 x20)) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  simp only [cc0__body_eq_skeleton]; unfold cc0__body_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, Hk⟩
  subst hf0 hf1 hf2 hf3 hf4 hf5 hf6 hf7 hf8 hf9 hf10 hf11 hf12 hf13 hf14 hf15 hf16 hf17 hf18 hf19 hf20
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  iexists _; isplitr
  swap; · iexact H21
  ipureintro
  refine (View.read_writes_eq_canon _ _ _ (cover0_21 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨_ + 22, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]

set_option maxHeartbeats 2000000 in
/-- Each input's staging buffer holds, when the body starts, what the body leaves in it, its block: whether or not
    the block was fetched at this very point. -/
theorem before_input (c : Dev nD) (w : Fin cfg0.W) (hw : w ≠ 21) (t : Fin cfg0.N) (d) :
    (dats m 0 c).before w t d = (dats m 0 c).after w t := by
  obtain ⟨w, hlt⟩ := w
  have hlt' : w < 22 := hlt
  interval_cases w
  case «21» => exact absurd rfl hw
  all_goals
    refine ((dats m 0 c).before_in_eq_fetched _ rfl (fun _ => rfl) (fun _ _ _ => rfl) (fun t => ?_) t d).trans ?_
    · unfold Dat.blockOf; rw [A_eq]; dsimp only [dats]; unfold iblk; rfl
    · unfold Dat.fetched Dat.blockOf; rw [A_eq]; dsimp only [dats]; unfold iblk; rfl

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t))

/-- The body at any point: the inputs' memrefs hold their blocks (`before_input`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_input m c 0 (by decide), before_input m c 1 (by decide), before_input m c 2 (by decide), before_input m c 3 (by decide), before_input m c 4 (by decide), before_input m c 5 (by decide), before_input m c 6 (by decide), before_input m c 7 (by decide), before_input m c 8 (by decide), before_input m c 9 (by decide), before_input m c 10 (by decide), before_input m c 11 (by decide), before_input m c 12 (by decide), before_input m c 13 (by decide), before_input m c 14 (by decide), before_input m c 15 (by decide), before_input m c 16 (by decide), before_input m c 17 (by decide), before_input m c 18 (by decide), before_input m c 19 (by decide), before_input m c 20 (by decide)]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (sound_kernel c Set.univ (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.KernelIdeal.Gen

end
-- ==== Proof.ReferenceFrame.lean ====
/- What a run of the plain reference leaves behind, apart from its result. -/
module

public import proofs.«01_k».proof.Defs
public import proofs.«01_k».proof.Proof.Gen.ReferenceIdeal.Run
public import Idealize.ShloMosaic.Lib.Quiescent

@[expose] public section

set_option maxRecDepth 16384

noncomputable section

namespace Cert.Proof

open Idealize.ShloMosaic Idealize.SL.Sem

/-- Every run of the reference ends, with its sixteen arguments unchanged and every semaphore counter at zero. -/
theorem reference_frame : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩) (Cert.ReferenceIdeal.Value.run m g)

end Cert.Proof

end
-- ==== Proof.Reals.lean ====
/- Arithmetic over the extended reals: the leaky rectifier, finiteness, zero-or-one factors, and the sums that the packed
   layout of the filter slots re-indexes. No program is mentioned here. -/
module

public import Idealize.ShloMosaic.Lib.Pointwise
public import Mathlib.Data.EReal.Inv
public import Mathlib.Algebra.BigOperators.Fin

@[expose] public section

noncomputable section

namespace Cert.Proof

open Idealize.ShloMosaic

/-! ## The leaky rectifier -/

/-- The slope of the leaky rectifier below zero, the single-precision number nearest one hundredth. -/
abbrev slope : EReal := Ideal.ofBits FTy.f32 1008981770#32

/-- The leaky rectifier: a value at or above zero is kept, one below is scaled by the slope. -/
def lrelu (v : EReal) : EReal := if 0 ≤ v then v else slope * v

/-- The slope as a fraction. -/
theorem slope_eq : slope = ((10737418 / 1073741824 : ℝ) : EReal) := by
  simp [slope, Ideal.ofBits, Ideal.ieee, -EReal.coe_mul]
  norm_num

/-- The larger of a value and its scaled self is its leaky rectification. -/
theorem max_slope (v : EReal) : max v (slope * v) = lrelu v := by
  unfold lrelu
  rw [slope_eq]
  induction v with
  | bot => rw [EReal.coe_mul_bot_of_pos (by norm_num)]; simp
  | top => rw [EReal.coe_mul_top_of_pos (by norm_num)]; simp
  | coe r =>
    rw [← EReal.coe_mul]
    split_ifs with h
    · have h' : 0 ≤ r := by exact_mod_cast h
      exact max_eq_left (by exact_mod_cast (by nlinarith))
    · have h' : r < 0 := by
        by_contra hc; exact h (by exact_mod_cast not_lt.mp hc)
      exact max_eq_right (by exact_mod_cast (by nlinarith))

/-! ## Finite values -/

/-- The value is a real number, neither of the two infinities. -/
def IsReal (x : EReal) : Prop := ∃ r : ℝ, (r : EReal) = x

/-- A value whose magnitude lies below positive infinity is a real number. -/
theorem IsReal.of_abs {x : EReal} (h : max x (-x) < ⊤) : IsReal x := by
  induction x with
  | bot => simp at h
  | top => simp at h
  | coe r => exact ⟨r, rfl⟩

/-- Zero is a real number. -/
theorem IsReal.zero : IsReal 0 := ⟨0, rfl⟩

/-- One is a real number. -/
theorem IsReal.one : IsReal 1 := ⟨1, rfl⟩

/-- A sum of two real numbers is one. -/
theorem IsReal.add {x y : EReal} : IsReal x → IsReal y → IsReal (x + y) := by
  rintro ⟨a, rfl⟩ ⟨b, rfl⟩; exact ⟨a + b, EReal.coe_add a b⟩

/-- A product of two real numbers is one. -/
theorem IsReal.mul {x y : EReal} : IsReal x → IsReal y → IsReal (x * y) := by
  rintro ⟨a, rfl⟩ ⟨b, rfl⟩; exact ⟨a * b, EReal.coe_mul a b⟩

/-- A choice between two real numbers is one. -/
theorem IsReal.ite {p : Prop} [Decidable p] {x y : EReal} (hx : IsReal x) (hy : IsReal y) : IsReal (if p then x else y) := by
  split_ifs <;> assumption

/-- A finite sum of real numbers is the sum of the reals. -/
theorem coe_sum {ι : Type} (s : Finset ι) (f : ι → ℝ) : ((∑ i ∈ s, f i : ℝ) : EReal) = ∑ i ∈ s, (f i : EReal) := by
  classical
  induction s using Finset.induction_on with
  | empty => simp
  | insert a t ha ih => rw [Finset.sum_insert ha, Finset.sum_insert ha, EReal.coe_add, ih]

/-- A finite sum of real numbers is one. -/
theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- The leaky rectification of a real number is one. -/
theorem IsReal.lrelu {x : EReal} (h : IsReal x) : IsReal (lrelu x) :=
  IsReal.ite h (IsReal.mul ⟨_, slope_eq.symm⟩ h)

/-- The inverse of a value other than zero is a real number: that of an infinity is zero. -/
theorem IsReal.inv (x : EReal) : IsReal x⁻¹ := by
  induction x with
  | bot => exact ⟨0, by simp⟩
  | top => exact ⟨0, by simp⟩
  | coe r => exact ⟨r⁻¹, EReal.coe_inv r⟩

/-- A real factor scales a sum of real numbers term by term. -/
theorem sum_mul_real {ι : Type} (s : Finset ι) {f : ι → EReal} {w : EReal} (hf : ∀ i, IsReal (f i)) (hw : IsReal w) :
    (∑ i ∈ s, f i) * w = ∑ i ∈ s, f i * w := by
  choose g hg using hf
  obtain ⟨v, rfl⟩ := hw
  simp only [← hg]
  rw [← coe_sum, ← EReal.coe_mul, Finset.sum_mul, coe_sum]
  exact Finset.sum_congr rfl fun i _ => EReal.coe_mul _ _

/-- Division by a value other than zero multiplies by the inverse. -/
theorem div_of_ne {x y : EReal} (hy : y ≠ 0) : Ideal.div x y = x * y⁻¹ := by
  unfold Ideal.div; rw [if_neg hy]

/-! ## Zero-or-one factors -/

/-- One where the value differs from zero, zero elsewhere. -/
def flag (x : EReal) : EReal := if x ≠ 0 then 1 else 0

/-- A flag is at or above zero. -/
theorem flag_nonneg (x : EReal) : 0 ≤ flag x := by
  unfold flag; split_ifs <;> simp

/-- A flag is a real number. -/
theorem IsReal.flag (x : EReal) : IsReal (flag x) := IsReal.ite IsReal.one IsReal.zero

/-- A flag as a factor keeps the value where the flag is one and leaves zero elsewhere. -/
theorem mul_flag (y x : EReal) : y * flag x = if x ≠ 0 then y else 0 := by
  unfold flag; split_ifs <;> simp

/-- A sum of flags scales a value term by term, infinite or not. -/
theorem sum_flag_mul {ι : Type} (s : Finset ι) (f : ι → EReal) (w : EReal) :
    (∑ i ∈ s, flag (f i)) * w = ∑ i ∈ s, flag (f i) * w := by
  classical
  induction s using Finset.induction_on with
  | empty => simp
  | insert a t ha ih =>
    rw [Finset.sum_insert ha, Finset.sum_insert ha, EReal.right_distrib_of_nonneg (flag_nonneg _)
      (Finset.sum_nonneg fun i _ => flag_nonneg _), ih]

/-- A sum against an indicator of one index is the term there. -/
theorem sum_indicator {n : Nat} (k : Nat) (hk : k < n) (f w : Fin n → EReal) :
    ∑ g : Fin n, f g * ((if k = g.val then (1 : EReal) else 0) * w g) = f ⟨k, hk⟩ * w ⟨k, hk⟩ := by
  rw [Finset.sum_eq_single (⟨k, hk⟩ : Fin n)]
  · simp
  · intro b _ hb
    rw [if_neg fun h => hb (Fin.ext h.symm)]; simp
  · intro h; exact absurd (Finset.mem_univ _) h

/-! ## Sums over a packed layout -/

/-- A sum over `J * T` places is the sum over `J` groups of the sums over `T` places each. -/
theorem sum_groups (J T N : Nat) (hN : N = J * T) (f : Nat → EReal) :
    ∑ k : Fin N, f k.val = ∑ j : Fin J, ∑ t : Fin T, f (j.val * T + t.val) := by
  subst hN
  rw [← Finset.sum_product', Finset.univ_product_univ, ← Equiv.sum_comp finProdFinEquiv]
  exact Finset.sum_congr rfl fun x _ => congrArg f (by simp [finProdFinEquiv, Nat.mul_comm, Nat.add_comm])

/-- The same sum with the place outermost. -/
theorem sum_groups' (J T N : Nat) (hN : N = J * T) (f : Nat → EReal) :
    ∑ k : Fin N, f k.val = ∑ t : Fin T, ∑ j : Fin J, f (j.val * T + t.val) := by
  rw [sum_groups J T N hN, Finset.sum_comm]

/-- Twenty-four slots, eight groups of three, whose last holds zero, sum to the first twenty-three. -/
theorem sum_slots (f : Nat → EReal) (h : f 23 = 0) :
    ∑ g : Fin 3, ∑ p : Fin 8, f (p.val * 3 + g.val) = ∑ m : Fin 23, f m.val := by
  rw [← sum_groups' 8 3 24 rfl, Fin.sum_univ_castSucc]
  show _ + f 23 = _
  rw [h, add_zero]; rfl

end Cert.Proof

end
-- ==== Proof.Spec.lean ====
/- What one row of the result is: the network both programs compute, on one row of features. -/
module

public import proofs.«01_k».proof.Proof.Reals

@[expose] public section

noncomputable section

namespace Cert.Proof

open Idealize.ShloMosaic

/-- The weights that reach the result: row 0 of each embedding table, the two filter layers, the sample and histogram
    layers and the last layer, each as a function of its indices. -/
structure Net where
  ty : Fin 32 → EReal
  tb : Fin 32 → EReal
  col : Fin 32 → EReal
  op : Fin 4 → EReal
  jn : Fin 32 → EReal
  Wf : Fin 37 → Fin 37 → EReal
  bf : Fin 37 → EReal
  Wf2 : Fin 37 → Fin 37 → EReal
  bf2 : Fin 37 → EReal
  Ws : Fin 32 → Fin 1000 → EReal
  bs : Fin 32 → EReal
  Wh : Fin 32 → Fin 50 → EReal
  bh : Fin 32 → EReal
  Wp : Fin 197 → Fin 197 → EReal
  bp : Fin 197 → EReal

namespace Net

variable (N : Net) (row : Fin 2245 → EReal)

/-- What the column and the operator contribute to channel `c` of the first filter layer, with the bias. -/
def base (c : Fin 37) : EReal :=
  (∑ i : Fin 32, N.col i * N.Wf c ⟨i.val, by omega⟩) + (∑ i : Fin 4, N.op i * N.Wf c ⟨32 + i.val, by omega⟩) + N.bf c

/-- Channel `c` of the first filter layer for a slot holding the value `v`. -/
def layer1 (v : EReal) (c : Fin 37) : EReal := lrelu (v * N.Wf c 36 + N.base c)

/-- Channel `d` of the second filter layer for a slot holding the value `v`. -/
def layer2 (v : EReal) (d : Fin 37) : EReal := lrelu ((∑ c : Fin 37, N.layer1 v c * N.Wf2 d c) + N.bf2 d)

/-- The value in filter slot `m`. -/
def val (m : Fin 23) : EReal := row ⟨48 + m.val, by omega⟩

/-- The mask of filter slot `m`. -/
def mask (m : Fin 23) : EReal := row ⟨71 + m.val, by omega⟩

/-- The divisor of the two means: the sum of the masks. -/
def count : EReal := ∑ m : Fin 23, mask row m

/-- Channel `d` of the mean of the filters. -/
def filt (d : Fin 37) : EReal :=
  (∑ m : Fin 23, if mask row m ≠ 0 then N.layer2 (val row m) d else 0) * (count row)⁻¹

/-- Channel `c` of the mean of the histograms. -/
def hist (c : Fin 32) : EReal :=
  (∑ m : Fin 23, if mask row m ≠ 0 then
      (∑ k : Fin 50, row ⟨95 + (k.val * 23 + m.val), by omega⟩ * N.Wh c k) + N.bh c else 0) * (count row)⁻¹

/-- Channel `c` of the sample layer. -/
def samp (c : Fin 32) : EReal := (∑ k : Fin 1000, row ⟨1245 + k.val, by omega⟩ * N.Ws c k) + N.bs c

/-- The six parts of the last layer's sum and its bias, at output `o`. -/
def total (o : Fin 197) : EReal :=
  (∑ i : Fin 32, N.ty i * N.Wp o ⟨i.val, by omega⟩) + (∑ d : Fin 37, N.filt row d * N.Wp o ⟨32 + d.val, by omega⟩)
    + (∑ i : Fin 32, N.jn i * N.Wp o ⟨69 + i.val, by omega⟩) + (∑ i : Fin 32, N.tb i * N.Wp o ⟨101 + i.val, by omega⟩)
    + (∑ i : Fin 32, N.hist row i * N.Wp o ⟨133 + i.val, by omega⟩)
    + (∑ i : Fin 32, N.samp row i * N.Wp o ⟨165 + i.val, by omega⟩) + N.bp o

/-- Output `o` of the network on one row. -/
def out (o : Fin 197) : EReal := lrelu (N.total row o)

/-- The finiteness the packed filter layers rely on: everything that enters them, and the last layer's columns that
    read their mean. -/
structure Tame : Prop where
  val : ∀ m, IsReal (Net.val row m)
  col : ∀ i, IsReal (N.col i)
  op : ∀ i, IsReal (N.op i)
  Wf : ∀ c i, IsReal (N.Wf c i)
  bf : ∀ c, IsReal (N.bf c)
  Wf2 : ∀ d c, IsReal (N.Wf2 d c)
  bf2 : ∀ d, IsReal (N.bf2 d)
  Wp : ∀ (o : Fin 197) (d : Fin 37), IsReal (N.Wp o ⟨32 + d.val, by omega⟩)
  count : Net.count row ≠ 0

variable {N row}

/-- The part of the first filter layer that does not depend on the slot is finite. -/
theorem Tame.base (h : N.Tame row) (c : Fin 37) : IsReal (N.base c) :=
  ((IsReal.sum _ fun i => (h.col i).mul (h.Wf _ _)).add (IsReal.sum _ fun i => (h.op i).mul (h.Wf _ _))).add (h.bf c)

/-- For a finite slot value the second filter layer is finite. -/
theorem Tame.layer2 (h : N.Tame row) {v : EReal} (hv : IsReal v) (d : Fin 37) : IsReal (N.layer2 v d) :=
  ((IsReal.sum _ fun c => (((hv.mul (h.Wf c 36)).add (h.base c)).lrelu).mul (h.Wf2 d c)).add (h.bf2 d)).lrelu

/-! ## The packed filters -/

/-- The value in slot `n` of the padded layout, whose slot 23 holds zero. -/
def pad (f : Fin 23 → EReal) (n : Nat) : EReal := if h : n < 23 then f ⟨n, h⟩ else 0

/-- The padded layout holds slot `m` at place `m`. -/
theorem pad_lt (f : Fin 23 → EReal) (m : Fin 23) : pad f m.val = f m := by simp [pad]

/-- A channel of a packed triple of slots: the remainder by 37. -/
abbrev chan (n : Nat) : Fin 37 := ⟨n % 37, Nat.mod_lt _ (by norm_num)⟩

/-- Channel `c` of group `g` has remainder `c`. -/
theorem chan_group (g : Nat) (c : Fin 37) : chan (g * 37 + c.val) = c := Fin.ext (by show (g * 37 + c.val) % 37 = _; omega)

/-- Packed channel `j` of the filters' mean: eight slots, one from each triple. -/
def fsum (N : Net) (row : Fin 2245 → EReal) (j : Nat) : EReal :=
  (∑ p : Fin 8, N.layer2 (pad (Net.val row) (p.val * 3 + j / 37)) (chan j)
    * pad (fun m => flag (Net.mask row m)) (p.val * 3 + j / 37)) * (Net.count row)⁻¹

/-- The packed mean against the last layer's columns, repeated for each of the three packed slots, is the mean against
    those columns. -/
theorem Tame.sum_fsum (h : N.Tame row) (o : Fin 197) :
    ∑ j : Fin 111, fsum N row j.val * N.Wp o ⟨32 + (chan j.val).val, by omega⟩
      = ∑ d : Fin 37, N.filt row d * N.Wp o ⟨32 + d.val, by omega⟩ := by
  rw [sum_groups' 3 37 111 rfl (fun j => fsum N row j * N.Wp o ⟨32 + (chan j).val, by omega⟩)]
  refine Finset.sum_congr rfl fun d _ => ?_
  have hpad : ∀ n, IsReal (pad (Net.val row) n) := fun n => by
    unfold pad; split_ifs; exacts [h.val _, IsReal.zero]
  have hflag : ∀ n, IsReal (pad (fun m => flag (Net.mask row m)) n) := fun n => by
    unfold pad; split_ifs; exacts [IsReal.flag _, IsReal.zero]
  have hterm : ∀ n : Nat, IsReal (N.layer2 (pad (Net.val row) n) d * pad (fun m => flag (Net.mask row m)) n) :=
    fun n => (h.layer2 (hpad n) d).mul (hflag n)
  have hg : ∀ g : Fin 3, fsum N row (g.val * 37 + d.val)
      = (∑ p : Fin 8, N.layer2 (pad (Net.val row) (p.val * 3 + g.val)) d
          * pad (fun m => flag (Net.mask row m)) (p.val * 3 + g.val)) * (Net.count row)⁻¹ := fun g => by
    have e : (g.val * 37 + d.val) / 37 = g.val := by omega
    unfold fsum
    rw [e, chan_group]
  have hW : ∀ g : Fin 3, N.Wp o ⟨32 + (chan (g.val * 37 + d.val)).val, by omega⟩ = N.Wp o ⟨32 + d.val, by omega⟩ := fun g =>
    congrArg (N.Wp o) (Fin.ext (congrArg (fun c : Fin 37 => 32 + c.val) (chan_group g.val d)))
  simp only [hg, hW]
  rw [← sum_mul_real _ (fun g => (IsReal.sum _ fun p => hterm _).mul (IsReal.inv _)) (h.Wp o d),
    ← sum_mul_real _ (fun g => IsReal.sum _ fun p => hterm _) (IsReal.inv _),
    sum_slots (fun n => N.layer2 (pad (Net.val row) n) d * pad (fun m => flag (Net.mask row m)) n) (by simp [pad])]
  unfold filt
  simp only [pad_lt, mul_flag]

/-! ## The packed histograms -/

/-- The histogram entries of the unmasked slots against the repeated weights, with the bias once for each unmasked slot,
    is the masked sum over the slots. -/
theorem sum_hist (f : Nat → EReal) (μ : Fin 23 → EReal) (w : Fin 50 → EReal) (b : EReal) :
    (∑ j : Fin 1150, (f j.val * flag (μ ⟨j.val % 23, Nat.mod_lt _ (by norm_num)⟩)) * w ⟨j.val / 23, by omega⟩)
        + (∑ m : Fin 23, flag (μ m)) * b
      = ∑ m : Fin 23, if μ m ≠ 0 then (∑ k : Fin 50, f (k.val * 23 + m.val) * w k) + b else 0 := by
  obtain ⟨wn, hwn⟩ : ∃ wn : Nat → EReal, ∀ k : Fin 50, w k = wn k.val :=
    ⟨fun n => if h : n < 50 then w ⟨n, h⟩ else 0, fun k => by simp⟩
  obtain ⟨μn, hμn⟩ : ∃ μn : Nat → EReal, ∀ m : Fin 23, μ m = μn m.val :=
    ⟨fun n => if h : n < 23 then μ ⟨n, h⟩ else 0, fun m => by simp⟩
  simp only [hwn, hμn]
  rw [sum_groups' 50 23 1150 rfl (fun j => (f j * flag (μn (j % 23))) * wn (j / 23)), sum_flag_mul,
    ← Finset.sum_add_distrib]
  refine Finset.sum_congr rfl fun m _ => ?_
  have e1 : ∀ k : Fin 50, (k.val * 23 + m.val) % 23 = m.val := fun k => by omega
  have e2 : ∀ k : Fin 50, (k.val * 23 + m.val) / 23 = k.val := fun k => by omega
  simp only [e1, e2]
  unfold flag
  split_ifs <;> simp

end Net

end Cert.Proof

end
-- ==== Proof.Block.lean ====
/- What one block of the kernel computes: its payloads read at an index, from arrays known entry by entry. -/
module

public import proofs.«01_k».proof.Proof.Spec
public import proofs.«01_k».proof.Proof.Gen.KernelIdeal.Skeleton

@[expose] public section

set_option maxRecDepth 16384

noncomputable section

namespace Cert.Proof

open Cert.KernelIdeal Cert.KernelIdeal.Gen Idealize.ShloMosaic Idealize.ShloMosaic.TcCoe Idealize.SL.Sem Net

/-- A comparison with zero, widened to a word and converted, is the flag of the value compared. -/
theorem sitofp_flag (x : EReal) :
    FloatOps.sitofp (F := Ideal) FTy.f32 (BitVec.setWidth 32 (BitVec.ofBool (decide (x ≠ 0)))) = flag x := by
  unfold flag
  by_cases h : x = 0
  · rw [if_neg (not_not.mpr h), decide_eq_false (not_not.mpr h)]
    show (((_ : ℤ) : ℝ) : EReal) = 0
    simp
  · rw [if_pos h, decide_eq_true h]
    show (((_ : ℤ) : ℝ) : EReal) = 1
    simp

/-- The mask flags of a block. -/
theorem pay2_apply (x : Vec Ideal S2048x23 .f32) (r : Fin 2048) (m : Fin 23) :
    k0_pay2 (F := Ideal) x (ix2 r m) = flag (x (ix2 r m)) := by
  pointwise [k0_pay2]
  exact sitofp_flag _

/-- The number of unmasked slots of each row. -/
theorem pay3_apply (x : Vec Ideal S2048x23 .f32) (r : Fin 2048) :
    k0_pay3 (F := Ideal) x (ix2 r 0) = ∑ m : Fin 23, flag (x (ix2 r m)) := by
  pointwise [k0_pay3]
  exact Finset.sum_congr rfl fun m _ => pay2_apply x r m

/-- The inverse of each row's sum of masks, where that sum is not zero. -/
theorem pay4_apply (x : Vec Ideal S2048x23 .f32) (r : Fin 2048) (h : ∑ m : Fin 23, x (ix2 r m) ≠ 0) :
    k0_pay4 (F := Ideal) x (ix2 r 0) = (∑ m : Fin 23, x (ix2 r m))⁻¹ := by
  pointwise [k0_pay4]
  rw [div_of_ne h, one_mul]

/-- A row repeated three times, read at a packed channel. -/
theorem triple (f : Fin 37 → EReal) (j : Fin 111) :
    (if h : j.val < 37 then f ⟨j.val, h⟩ else if h : j.val - 37 < 37 then f ⟨j.val - 37, h⟩
      else f ⟨j.val - 37 - 37, by omega⟩) = f (chan j.val) := by
  split_ifs <;> exact congrArg f (Fin.ext (by dsimp only [chan]; omega))

/-- The first filter layer's constant part, repeated for each packed slot. -/
theorem pay5_apply (N : Net) (a : Vec Ideal S1x32 .f32) (b : Vec Ideal S1x4 .f32) (c : Vec Ideal S32x37 .f32)
    (d : Vec Ideal S4x37 .f32) (e : Vec Ideal S1x37 .f32) (ha : ∀ i : Fin 32, a (ix2 0 i) = N.col i)
    (hb : ∀ i : Fin 4, b (ix2 0 i) = N.op i)
    (hc : ∀ (i : Fin 32) (k : Fin 37), c (ix2 i k) = N.Wf k ⟨i.val, by omega⟩)
    (hd : ∀ (i : Fin 4) (k : Fin 37), d (ix2 i k) = N.Wf k ⟨32 + i.val, by omega⟩)
    (he : ∀ k : Fin 37, e (ix2 0 k) = N.bf k) (j : Fin 111) :
    k0_pay5 (F := Ideal) a b c d e (ix2 0 j) = N.base (chan j.val) := by
  pointwise [k0_pay5]
  simp only [ha, hb, hc, hd, he]
  exact triple N.base j

/-- The second filter layer's bias, repeated for each packed slot. -/
theorem pay6_apply (e : Vec Ideal S1x37 .f32) (j : Fin 111) :
    k0_pay6 (F := Ideal) e (ix2 0 j) = e (ix2 0 (chan j.val)) := by
  pointwise [k0_pay6]
  exact triple (fun k => e (ix2 0 k)) j

/-- The packed filters' mean, at one row and packed channel. -/
theorem pay9_apply (N : Net) (row : Fin 2245 → EReal) (r : Fin 2048)
    (v7 : FVec Ideal S2048x23 .f32) (v13 : FVec Ideal S2048x1 .f32) (v26 v29 : FVec Ideal S1x111 .f32)
    (v31 : FVec Ideal S23x2048 .f32) (v43 : Vec Ideal S3x111 .f32)
    (v50 : Vec Ideal S111x111 .f32) (v58 : Vec Ideal S3x111 .f32)
    (h7 : ∀ m : Fin 23, v7 (ix2 r m) = flag (mask row m)) (h13 : v13 (ix2 r 0) = (count row)⁻¹)
    (h26 : ∀ j : Fin 111, v26 (ix2 0 j) = N.base (chan j.val))
    (h29 : ∀ j : Fin 111, v29 (ix2 0 j) = N.bf2 (chan j.val))
    (h31 : ∀ m : Fin 23, v31 (ix2 m r) = val row m)
    (h43 : ∀ (g : Fin 3) (j : Fin 111), v43 (ix2 g j) = (if j.val / 37 = g.val then 1 else 0) * N.Wf (chan j.val) 36)
    (h50 : ∀ i j : Fin 111,
      v50 (ix2 i j) = (if j.val / 37 = i.val / 37 then 1 else 0) * N.Wf2 (chan j.val) (chan i.val))
    (h58 : ∀ (g : Fin 3) (j : Fin 111), v58 (ix2 g j) = if j.val / 37 = g.val then 1 else 0) (j : Fin 111) :
    k0_pay9 (F := Ideal) v7 v13 v26 v29 (k0_pay7 (F := Ideal)) v31 v43 v50 v58 (ix2 r j) = fsum N row j.val := by
  have h30 : ∀ i : Fin 1, k0_pay7 (F := Ideal) (ix2 i r) = 0 := fun i => by
    obtain rfl : i = 0 := Subsingleton.elim _ _
    pointwise [k0_pay7]
  have hp : ∀ (f : Fin 23 → EReal) (n : Nat), (if h : n < 23 then f ⟨n, h⟩ else 0) = pad f n := fun _ _ => rfl
  have hg : ∀ (i : Fin 111), i.val / 37 < 3 := fun i => by omega
  have s1 : ∀ (f : Fin 3 → EReal) (i : Fin 111) (w : EReal),
      ∑ g : Fin 3, f g * ((if i.val / 37 = g.val then (1 : EReal) else 0) * w) = f ⟨i.val / 37, hg i⟩ * w :=
    fun f i w => sum_indicator (i.val / 37) (hg i) f fun _ => w
  have s2 : ∀ (f : Fin 3 → EReal) (i : Fin 111),
      ∑ g : Fin 3, f g * (if i.val / 37 = g.val then (1 : EReal) else 0) = f ⟨i.val / 37, hg i⟩ :=
    fun f i => by simpa only [mul_one] using s1 f i 1
  pointwise [k0_pay9]
  simp only [max_slope, h7, h13, h26, h29, h30, h31, h43, h50, h58, hp, s1, s2, Finset.univ_unique, Finset.sum_singleton]
  unfold fsum
  refine congrArg (· * _) (Finset.sum_congr rfl fun p _ => congrArg (· * _) ?_)
  have tail : ∀ d : Fin 37, (∑ i : Fin 111,
      lrelu (pad (val row) (p.val * 3 + i.val / 37) * N.Wf (chan i.val) 36 + N.base (chan i.val))
        * ((if j.val / 37 = i.val / 37 then 1 else 0) * N.Wf2 d (chan i.val)))
      = ∑ c : Fin 37, N.layer1 (pad (val row) (p.val * 3 + j.val / 37)) c * N.Wf2 d c := fun d => by
    rw [sum_groups' 3 37 111 rfl (fun i =>
      lrelu (pad (val row) (p.val * 3 + i / 37) * N.Wf (chan i) 36 + N.base (chan i))
        * ((if j.val / 37 = i / 37 then 1 else 0) * N.Wf2 d (chan i)))]
    refine Finset.sum_congr rfl fun c _ => ?_
    have e : ∀ g : Fin 3, (g.val * 37 + c.val) / 37 = g.val := fun g => by omega
    simp only [chan_group, e]
    exact s1 (fun g => N.layer1 (pad (val row) (p.val * 3 + g.val)) c) j (N.Wf2 d c)
  exact congrArg lrelu (congrArg (· + _) (tail _))

/-- The histograms' mean, at one row and channel. -/
theorem pay11_apply (N : Net) (row : Fin 2245 → EReal) (r : Fin 2048)
    (hs : Vec Ideal S2048x1150 .f32) (v7 : FVec Ideal S2048x23 .f32) (v11 v13 : FVec Ideal S2048x1 .f32)
    (rt : Vec Ideal S23x1150 .f32) (wh : Vec Ideal S1150x32 .f32) (bh : Vec Ideal S1x32 .f32)
    (h7 : ∀ m : Fin 23, v7 (ix2 r m) = flag (mask row m)) (h11 : v11 (ix2 r 0) = ∑ m : Fin 23, flag (mask row m))
    (h13 : v13 (ix2 r 0) = (count row)⁻¹)
    (hhs : ∀ j : Fin 1150, hs (ix2 r j) = row ⟨95 + j.val, by omega⟩)
    (hrt : ∀ (m : Fin 23) (j : Fin 1150), rt (ix2 m j) = if j.val % 23 = m.val then 1 else 0)
    (hwh : ∀ (j : Fin 1150) (c : Fin 32), wh (ix2 j c) = N.Wh c ⟨j.val / 23, by omega⟩)
    (hbh : ∀ c : Fin 32, bh (ix2 0 c) = N.bh c) (c : Fin 32) :
    k0_pay11 (F := Ideal) v11 v13 (k0_pay10 (F := Ideal) hs v7 rt wh) bh (ix2 r c) = N.hist row c := by
  have s2 : ∀ (f : Fin 23 → EReal) (j : Fin 1150),
      ∑ m : Fin 23, f m * (if j.val % 23 = m.val then (1 : EReal) else 0) = f ⟨j.val % 23, Nat.mod_lt _ (by norm_num)⟩ :=
    fun f j => by
      simpa only [mul_one] using sum_indicator (j.val % 23) (Nat.mod_lt _ (by norm_num)) f fun _ => 1
  have e10 : k0_pay10 (F := Ideal) hs v7 rt wh (ix2 r c)
      = ∑ j : Fin 1150, (row ⟨95 + j.val, by omega⟩ * flag (mask row ⟨j.val % 23, Nat.mod_lt _ (by norm_num)⟩))
          * N.Wh c ⟨j.val / 23, by omega⟩ := by
    pointwise [k0_pay10]
    simp only [h7, hhs, hrt, hwh, s2]
  pointwise [k0_pay11]
  rw [e10, h11, h13, hbh]
  unfold hist
  refine congrArg (· * _) ?_
  obtain ⟨rn, hrn⟩ : ∃ rn : Nat → EReal, ∀ i : Fin 2245, row i = rn i.val :=
    ⟨fun n => if h : n < 2245 then row ⟨n, h⟩ else 0, fun i => by simp⟩
  simp only [hrn]
  exact sum_hist (fun n => rn (95 + n)) (mask row) (N.Wh c) (N.bh c)

/-- The sample layer, at one row and channel. -/
theorem pay12_apply (N : Net) (row : Fin 2245 → EReal) (r : Fin 2048)
    (sm : Vec Ideal S2048x1000 .f32) (ws : Vec Ideal S1000x32 .f32) (bs : Vec Ideal S1x32 .f32)
    (hsm : ∀ k : Fin 1000, sm (ix2 r k) = row ⟨1245 + k.val, by omega⟩)
    (hws : ∀ (k : Fin 1000) (c : Fin 32), ws (ix2 k c) = N.Ws c k) (hbs : ∀ c : Fin 32, bs (ix2 0 c) = N.bs c) (c : Fin 32) :
    k0_pay12 (F := Ideal) sm ws bs (ix2 r c) = N.samp row c := by
  pointwise [k0_pay12]
  simp only [hsm, hws, hbs]
  rfl

/-- The whole body at one row and output is the network on that row. -/
theorem body_apply (N : Net) (row : Fin 2245 → EReal) (hT : N.Tame row) (r : Fin 2048)
    (vs mk : Vec Ideal S2048x23 .f32) (hs : Vec Ideal S2048x1150 .f32) (sm : Vec Ideal S2048x1000 .f32)
    (col : Vec Ideal S1x32 .f32) (op : Vec Ideal S1x4 .f32) (wfc : Vec Ideal S32x37 .f32) (wfo : Vec Ideal S4x37 .f32)
    (bf bf2 : Vec Ideal S1x37 .f32) (w3 : Vec Ideal S3x111 .f32) (bd3 : Vec Ideal S111x111 .f32) (e3 : Vec Ideal S3x111 .f32)
    (rt : Vec Ideal S23x1150 .f32) (wh : Vec Ideal S1150x32 .f32) (bh : Vec Ideal S1x32 .f32)
    (ws : Vec Ideal S1000x32 .f32) (bs : Vec Ideal S1x32 .f32)
    (ty jn tb : Vec Ideal S1x32 .f32) (wpT wpJ wpB wpH wpS : Vec Ideal S32x197 .f32) (wpF : Vec Ideal S111x197 .f32)
    (bp : Vec Ideal S1x197 .f32)
    (hvs : ∀ m : Fin 23, vs (ix2 r m) = val row m) (hmk : ∀ m : Fin 23, mk (ix2 r m) = mask row m)
    (hhs : ∀ j : Fin 1150, hs (ix2 r j) = row ⟨95 + j.val, by omega⟩)
    (hsm : ∀ k : Fin 1000, sm (ix2 r k) = row ⟨1245 + k.val, by omega⟩)
    (hcol : ∀ i : Fin 32, col (ix2 0 i) = N.col i) (hop : ∀ i : Fin 4, op (ix2 0 i) = N.op i)
    (hwfc : ∀ (i : Fin 32) (k : Fin 37), wfc (ix2 i k) = N.Wf k ⟨i.val, by omega⟩)
    (hwfo : ∀ (i : Fin 4) (k : Fin 37), wfo (ix2 i k) = N.Wf k ⟨32 + i.val, by omega⟩)
    (hbf : ∀ k : Fin 37, bf (ix2 0 k) = N.bf k) (hbf2 : ∀ k : Fin 37, bf2 (ix2 0 k) = N.bf2 k)
    (hw3 : ∀ (g : Fin 3) (j : Fin 111), w3 (ix2 g j) = (if j.val / 37 = g.val then 1 else 0) * N.Wf (chan j.val) 36)
    (hbd3 : ∀ i j : Fin 111,
      bd3 (ix2 i j) = (if j.val / 37 = i.val / 37 then 1 else 0) * N.Wf2 (chan j.val) (chan i.val))
    (he3 : ∀ (g : Fin 3) (j : Fin 111), e3 (ix2 g j) = if j.val / 37 = g.val then 1 else 0)
    (hrt : ∀ (m : Fin 23) (j : Fin 1150), rt (ix2 m j) = if j.val % 23 = m.val then 1 else 0)
    (hwh : ∀ (j : Fin 1150) (c : Fin 32), wh (ix2 j c) = N.Wh c ⟨j.val / 23, by omega⟩)
    (hbh : ∀ c : Fin 32, bh (ix2 0 c) = N.bh c)
    (hws : ∀ (k : Fin 1000) (c : Fin 32), ws (ix2 k c) = N.Ws c k) (hbs : ∀ c : Fin 32, bs (ix2 0 c) = N.bs c)
    (hty : ∀ i : Fin 32, ty (ix2 0 i) = N.ty i) (hjn : ∀ i : Fin 32, jn (ix2 0 i) = N.jn i)
    (htb : ∀ i : Fin 32, tb (ix2 0 i) = N.tb i)
    (hwpT : ∀ (i : Fin 32) (o : Fin 197), wpT (ix2 i o) = N.Wp o ⟨i.val, by omega⟩)
    (hwpJ : ∀ (i : Fin 32) (o : Fin 197), wpJ (ix2 i o) = N.Wp o ⟨69 + i.val, by omega⟩)
    (hwpB : ∀ (i : Fin 32) (o : Fin 197), wpB (ix2 i o) = N.Wp o ⟨101 + i.val, by omega⟩)
    (hwpH : ∀ (i : Fin 32) (o : Fin 197), wpH (ix2 i o) = N.Wp o ⟨133 + i.val, by omega⟩)
    (hwpS : ∀ (i : Fin 32) (o : Fin 197), wpS (ix2 i o) = N.Wp o ⟨165 + i.val, by omega⟩)
    (hwpF : ∀ (j : Fin 111) (o : Fin 197), wpF (ix2 j o) = N.Wp o ⟨32 + (chan j.val).val, by omega⟩)
    (hbp : ∀ o : Fin 197, bp (ix2 0 o) = N.bp o) (o : Fin 197) :
    k0_pay1 (F := Ideal)
      (k0_pay11 (k0_pay3 mk) (k0_pay4 mk) (k0_pay10 hs (k0_pay2 mk) rt wh) bh)
      (k0_pay12 sm ws bs) (k0_pay13 ty wpT jn wpJ tb wpB)
      (k0_pay14 (k0_pay9 (k0_pay2 mk) (k0_pay4 mk) (k0_pay5 col op wfc wfo bf) (k0_pay6 bf2) (k0_pay7 (F := Ideal))
        (k0_pay8 vs) w3 bd3 e3) wpF) wpH wpS bp (ix2 r o) = N.out row o := by
  have hsum : ∑ m : Fin 23, mk (ix2 r m) = count row := Finset.sum_congr rfl fun m _ => hmk m
  have h2 : ∀ m : Fin 23, k0_pay2 (F := Ideal) mk (ix2 r m) = flag (mask row m) := fun m => by rw [pay2_apply, hmk]
  have h3 : k0_pay3 (F := Ideal) mk (ix2 r 0) = ∑ m : Fin 23, flag (mask row m) := by
    rw [pay3_apply]; exact Finset.sum_congr rfl fun m _ => by rw [hmk]
  have h4 : k0_pay4 (F := Ideal) mk (ix2 r 0) = (count row)⁻¹ := by
    rw [pay4_apply _ _ (by rw [hsum]; exact hT.count), hsum]
  have h8 : ∀ m : Fin 23, k0_pay8 (F := Ideal) vs (ix2 m r) = val row m := fun m => by
    pointwise [k0_pay8]
    exact hvs m
  have h9 := pay9_apply N row r (k0_pay2 mk) (k0_pay4 mk) (k0_pay5 col op wfc wfo bf) (k0_pay6 bf2) (k0_pay8 vs) w3 bd3 e3
    h2 h4 (pay5_apply N col op wfc wfo bf hcol hop hwfc hwfo hbf) (fun j => by rw [pay6_apply, hbf2]) h8 hw3 hbd3 he3
  have h11 := pay11_apply N row r hs (k0_pay2 mk) (k0_pay3 mk) (k0_pay4 mk) rt wh bh h2 h3 h4 hhs hrt hwh hbh
  have h12 := pay12_apply N row r sm ws bs hsm hws hbs
  have h13 : k0_pay13 (F := Ideal) ty wpT jn wpJ tb wpB (ix2 0 o)
      = (∑ i : Fin 32, N.ty i * N.Wp o ⟨i.val, by omega⟩) + (∑ i : Fin 32, N.jn i * N.Wp o ⟨69 + i.val, by omega⟩)
        + (∑ i : Fin 32, N.tb i * N.Wp o ⟨101 + i.val, by omega⟩) := by
    pointwise [k0_pay13]
    simp only [hty, hjn, htb, hwpT, hwpJ, hwpB]
  have h14 : k0_pay14 (F := Ideal) (k0_pay9 (k0_pay2 mk) (k0_pay4 mk) (k0_pay5 col op wfc wfo bf) (k0_pay6 bf2)
      (k0_pay7 (F := Ideal)) (k0_pay8 vs) w3 bd3 e3) wpF (ix2 r o)
      = ∑ d : Fin 37, N.filt row d * N.Wp o ⟨32 + d.val, by omega⟩ := by
    pointwise [k0_pay14]
    simp only [h9, hwpF]
    exact hT.sum_fsum o
  pointwise [k0_pay1]
  rw [max_slope]
  simp only [h11, h12, h13, h14, hwpH, hwpS, hbp]
  unfold out total
  refine congrArg lrelu ?_
  ac_rfl

end Cert.Proof

end
-- ==== Proof.Weights.lean ====
/- What the arrays computed before the launch hold, entry by entry, in terms of the program's arguments. -/
module

public import proofs.«01_k».proof.Proof.Spec
public import proofs.«01_k».proof.Proof.KernelIdealFrame
public import Idealize.ShloMosaic.Lib.Pointwise
public import Idealize.ShloMosaic.Lib.Pipeline.ValueKit

@[expose] public section

set_option maxRecDepth 16384

noncomputable section

namespace Cert.Proof

open Cert.KernelIdeal Cert.KernelIdeal.Gen Idealize.ShloMosaic Idealize.ShloMosaic.TcCoe Idealize.SL.Sem

/-- A word comparison of two small numbers, converted, is the indicator of their equality. -/
theorem uitofp_eq (x a : Nat) (hx : x < 2 ^ 32) (ha : a < 2 ^ 32) :
    FloatOps.uitofp (F := Ideal) FTy.f32 (IntOp.cmpi CmpIPredicate.eq (BitVec.ofNat 32 x) (BitVec.ofNat 32 a))
      = if x = a then (1 : EReal) else 0 := by
  by_cases h : x = a
  · subst h
    rw [if_pos rfl]
    show (((_ : ℕ) : ℝ) : EReal) = 1
    simp [IntOp.cmpi]
  · rw [if_neg h]
    have h' : BitVec.ofNat 32 x ≠ BitVec.ofNat 32 a := fun e => h (by
      have := congrArg BitVec.toNat e
      rwa [BitVec.toNat_ofNat, BitVec.toNat_ofNat, Nat.mod_eq_of_lt hx, Nat.mod_eq_of_lt ha] at this)
    show (((_ : ℕ) : ℝ) : EReal) = 0
    simp [IntOp.cmpi, h']

/-- The remainder by 23 as the words compute it: a truncated remainder, corrected where its sign differs from the
    divisor's. -/
theorem mod_word : ∀ j : Fin 1150,
    Scalar.select
      (IntOp.andi
        (IntOp.cmpi CmpIPredicate.ne
          (IntOp.cmpi CmpIPredicate.slt
            (IntOp.remsi ArithUnit.host (BitVec.ofNat 32 j.val)
              (Scalar.select (IntOp.cmpi CmpIPredicate.eq 23#32 0#32) 1#32 23#32))
            0#32)
          (IntOp.cmpi CmpIPredicate.slt (Scalar.select (IntOp.cmpi CmpIPredicate.eq 23#32 0#32) 1#32 23#32) 0#32))
        (IntOp.cmpi CmpIPredicate.ne
          (IntOp.remsi ArithUnit.host (BitVec.ofNat 32 j.val)
            (Scalar.select (IntOp.cmpi CmpIPredicate.eq 23#32 0#32) 1#32 23#32))
          0#32))
      (IntOp.addi
        (IntOp.remsi ArithUnit.host (BitVec.ofNat 32 j.val)
          (Scalar.select (IntOp.cmpi CmpIPredicate.eq 23#32 0#32) 1#32 23#32))
        (Scalar.select (IntOp.cmpi CmpIPredicate.eq 23#32 0#32) 1#32 23#32))
      (IntOp.remsi ArithUnit.host (BitVec.ofNat 32 j.val)
        (Scalar.select (IntOp.cmpi CmpIPredicate.eq 23#32 0#32) 1#32 23#32))
      = BitVec.ofNat 32 (j.val % 23) := by decide +kernel

/-- The quotient by 37 as the words compute it: a truncated quotient, corrected where the signs differ. -/
theorem div_word : ∀ j : Fin 111,
    Scalar.select
      (IntOp.andi
        (IntOp.cmpi CmpIPredicate.ne
          (if BitVec.ofNat 32 j.val = 0 then 0 else if (BitVec.ofNat 32 j.val).msb = true then -1 else 1 : BitVec 32)
          (if 37#32 = 0 then 0 else if (37#32).msb = true then -1 else 1 : BitVec 32))
        (IntOp.cmpi CmpIPredicate.ne (IntOp.remsi ArithUnit.host (BitVec.ofNat 32 j.val) 37#32) 0#32))
      (IntOp.subi (IntOp.divsi ArithUnit.host (BitVec.ofNat 32 j.val) 37#32) 1#32)
      (IntOp.divsi ArithUnit.host (BitVec.ofNat 32 j.val) 37#32)
      = BitVec.ofNat 32 (j.val / 37) := by decide +kernel

/-- The indicator of a packed channel's slot, from the word that holds the quotient. -/
theorem div_flag {a : Fin 3} {j : Fin 111} {w : BitVec 32} (h : w = BitVec.ofNat 32 (j.val / 37)) :
    FloatOps.uitofp (F := Ideal) FTy.f32 (IntOp.cmpi CmpIPredicate.eq w (BitVec.ofNat 32 a.val))
      = if j.val / 37 = a.val then (1 : EReal) else 0 := by
  rw [h]
  exact uitofp_eq _ _ (by omega) (by omega)

variable (m : (ℓ : Loc nD τ sig) → Buf (Elt Ideal) ℓ) (c : Dev nD)

/-- The last layer's matrix, transposed. -/
theorem v0_apply (i o : Fin 197) : (V m c main_v0 : FVec Ideal S197x197 .f32) (ix2 i o)
    = (m ((c.tc : Thread nD τ).loc main_arg14) : FVec Ideal S197x197 .f32) (ix2 o i) := by
  unfold V
  simp only [hostOps0, hostOps0_1, hostOps0_2, hostOps0_3, hostOps0_4, hostOps0_5, hostOps0_6, List.flatten_cons,
    List.flatten_nil, List.append_nil, List.cons_append, List.nil_append]
  entry_read
  pointwise

/-- The repetition matrix: slot `a` of the 23 is repeated at every column with that remainder. -/
theorem v9_apply (a : Fin 23) (j : Fin 1150) : (V m c main_v9 : FVec Ideal S23x1150 .f32) (ix2 a j)
    = (if j.val % 23 = a.val then 1 else 0 : EReal) := by
  unfold V
  simp only [hostOps0, hostOps0_1, hostOps0_2, hostOps0_3, hostOps0_4, hostOps0_5, hostOps0_6, List.flatten_cons,
    List.flatten_nil, List.append_nil, List.cons_append, List.nil_append]
  entry_read
  simp only [StableHlo.TRef.toBuf, StableHlo.TRef.ofBuf, cast_cast, cast_eq]
  pointwise
  rw [mod_word]
  exact uitofp_eq _ _ (by omega) (by omega)

/-- The histogram weights, each row repeated 23 times. -/
theorem v12_apply (j : Fin 1150) (k : Fin 32) : (V m c main_v12 : FVec Ideal S1150x32 .f32) (ix2 j k)
    = (m ((c.tc : Thread nD τ).loc main_arg12) : FVec Ideal S32x50 .f32) (ix2 k ⟨j.val / 23, by omega⟩) := by
  unfold V
  simp only [hostOps0, hostOps0_1, hostOps0_2, hostOps0_3, hostOps0_4, hostOps0_5, hostOps0_6, List.flatten_cons,
    List.flatten_nil, List.append_nil, List.cons_append, List.nil_append]
  entry_read
  pointwise

/-- The spreading matrix: packed slot `a` fills its 37 channels. -/
theorem v21_apply (a : Fin 3) (j : Fin 111) : (V m c main_v21 : FVec Ideal S3x111 .f32) (ix2 a j)
    = (if j.val / 37 = a.val then 1 else 0 : EReal) := by
  unfold V
  simp only [hostOps0, hostOps0_1, hostOps0_2, hostOps0_3, hostOps0_4, hostOps0_5, hostOps0_6, List.flatten_cons,
    List.flatten_nil, List.append_nil, List.cons_append, List.nil_append]
  entry_read
  simp only [StableHlo.TRef.toBuf, StableHlo.TRef.ofBuf, cast_cast, cast_eq]
  pointwise
  exact div_flag (div_word j)

/-- The value column of the first filter layer, spread over the packed slots. -/
theorem v29_apply (a : Fin 3) (j : Fin 111) : (V m c main_v29 : FVec Ideal S3x111 .f32) (ix2 a j)
    = (if j.val / 37 = a.val then 1 else 0 : EReal) * (m ((c.tc : Thread nD τ).loc main_arg6) : FVec Ideal S37x37 .f32) (ix2 (Net.chan j.val) 36) := by
  unfold V
  simp only [hostOps0, hostOps0_1, hostOps0_2, hostOps0_3, hostOps0_4, hostOps0_5, hostOps0_6, List.flatten_cons,
    List.flatten_nil, List.append_nil, List.cons_append, List.nil_append]
  entry_read
  simp only [StableHlo.TRef.toBuf, StableHlo.TRef.ofBuf, cast_cast, cast_eq]
  pointwise
  exact congrArg (· * _) (div_flag (div_word j))

/-- The second filter layer, transposed, once on the diagonal for each packed slot. -/
theorem v37_apply (a j : Fin 111) : (V m c main_v37 : FVec Ideal S111x111 .f32) (ix2 a j)
    = (if j.val / 37 = a.val / 37 then 1 else 0 : EReal) * (m ((c.tc : Thread nD τ).loc main_arg8) : FVec Ideal S37x37 .f32) (ix2 (Net.chan j.val) (Net.chan a.val)) := by
  unfold V
  simp only [hostOps0, hostOps0_1, hostOps0_2, hostOps0_3, hostOps0_4, hostOps0_5, hostOps0_6, List.flatten_cons,
    List.flatten_nil, List.append_nil, List.cons_append, List.nil_append]
  entry_read
  simp only [StableHlo.TRef.toBuf, StableHlo.TRef.ofBuf, cast_cast, cast_eq]
  pointwise
  have e : IntOp.addi (BitVec.ofNat 32 (a.val / 37)) 0#32 = BitVec.ofNat 32 (a.val / 37) := by simp [IntOp.addi]
  rw [e, uitofp_eq _ _ (by omega) (by omega)]
  simp only [eq_comm (a := a.val / 37)]

/-- The second filter layer, transposed. -/
theorem v30_apply (a j : Fin 37) : (V m c main_v30 : FVec Ideal S37x37 .f32) (ix2 a j)
    = (m ((c.tc : Thread nD τ).loc main_arg8) : FVec Ideal S37x37 .f32) (ix2 j a) := by
  unfold V
  simp only [hostOps0, hostOps0_1, hostOps0_2, hostOps0_3, hostOps0_4, hostOps0_5, hostOps0_6, List.flatten_cons,
    List.flatten_nil, List.append_nil, List.cons_append, List.nil_append]
  entry_read
  pointwise

/-- The sample layer, transposed. -/
theorem v38_apply (k : Fin 1000) (j : Fin 32) : (V m c main_v38 : FVec Ideal S1000x32 .f32) (ix2 k j)
    = (m ((c.tc : Thread nD τ).loc main_arg10) : FVec Ideal S32x1000 .f32) (ix2 j k) := by
  unfold V
  simp only [hostOps0, hostOps0_1, hostOps0_2, hostOps0_3, hostOps0_4, hostOps0_5, hostOps0_6, List.flatten_cons,
    List.flatten_nil, List.append_nil, List.cons_append, List.nil_append]
  entry_read
  pointwise

/-- The first filter layer, transposed. -/
theorem v41_apply (a j : Fin 37) : (V m c main_v41 : FVec Ideal S37x37 .f32) (ix2 a j)
    = (m ((c.tc : Thread nD τ).loc main_arg6) : FVec Ideal S37x37 .f32) (ix2 j a) := by
  unfold V
  simp only [hostOps0, hostOps0_1, hostOps0_2, hostOps0_3, hostOps0_4, hostOps0_5, hostOps0_6, List.flatten_cons,
    List.flatten_nil, List.append_nil, List.cons_append, List.nil_append]
  entry_read
  pointwise

/-- The bias of the first filter layer, as one row. -/
theorem v42_apply (j : Fin 37) : (V m c main_v42 : FVec Ideal S1x37 .f32) (ix2 0 j)
    = (m ((c.tc : Thread nD τ).loc main_arg7) : FVec Ideal S37 .f32) (ix1 j) := by
  unfold V
  simp only [hostOps0, hostOps0_1, hostOps0_2, hostOps0_3, hostOps0_4, hostOps0_5, hostOps0_6, List.flatten_cons,
    List.flatten_nil, List.append_nil, List.cons_append, List.nil_append]
  entry_read
  pointwise

/-- The bias of the second filter layer, as one row. -/
theorem v43_apply (j : Fin 37) : (V m c main_v43 : FVec Ideal S1x37 .f32) (ix2 0 j)
    = (m ((c.tc : Thread nD τ).loc main_arg9) : FVec Ideal S37 .f32) (ix1 j) := by
  unfold V
  simp only [hostOps0, hostOps0_1, hostOps0_2, hostOps0_3, hostOps0_4, hostOps0_5, hostOps0_6, List.flatten_cons,
    List.flatten_nil, List.append_nil, List.cons_append, List.nil_append]
  entry_read
  pointwise

/-- The bias of the sample layer, as one row. -/
theorem v44_apply (j : Fin 32) : (V m c main_v44 : FVec Ideal S1x32 .f32) (ix2 0 j)
    = (m ((c.tc : Thread nD τ).loc main_arg11) : FVec Ideal S32 .f32) (ix1 j) := by
  unfold V
  simp only [hostOps0, hostOps0_1, hostOps0_2, hostOps0_3, hostOps0_4, hostOps0_5, hostOps0_6, List.flatten_cons,
    List.flatten_nil, List.append_nil, List.cons_append, List.nil_append]
  entry_read
  pointwise

/-- The bias of the histogram layer, as one row. -/
theorem v45_apply (j : Fin 32) : (V m c main_v45 : FVec Ideal S1x32 .f32) (ix2 0 j)
    = (m ((c.tc : Thread nD τ).loc main_arg13) : FVec Ideal S32 .f32) (ix1 j) := by
  unfold V
  simp only [hostOps0, hostOps0_1, hostOps0_2, hostOps0_3, hostOps0_4, hostOps0_5, hostOps0_6, List.flatten_cons,
    List.flatten_nil, List.append_nil, List.cons_append, List.nil_append]
  entry_read
  pointwise

/-- The bias of the last layer, as one row. -/
theorem v46_apply (j : Fin 197) : (V m c main_v46 : FVec Ideal S1x197 .f32) (ix2 0 j)
    = (m ((c.tc : Thread nD τ).loc main_arg15) : FVec Ideal S197 .f32) (ix1 j) := by
  unfold V
  simp only [hostOps0, hostOps0_1, hostOps0_2, hostOps0_3, hostOps0_4, hostOps0_5, hostOps0_6, List.flatten_cons,
    List.flatten_nil, List.append_nil, List.cons_append, List.nil_append]
  entry_read
  pointwise

/-- The last layer's 37 columns that read the filters' mean, transposed. -/
theorem v39_apply (i : Fin 37) (o : Fin 197) : (V m c main_v39 : FVec Ideal S37x197 .f32) (ix2 i o)
    = (m ((c.tc : Thread nD τ).loc main_arg14) : FVec Ideal S197x197 .f32) (ix2 o ⟨32 + i.val, by omega⟩) := by
  unfold V
  simp only [hostOps0, hostOps0_1, hostOps0_2, hostOps0_3, hostOps0_4, hostOps0_5, hostOps0_6, List.flatten_cons,
    List.flatten_nil, List.append_nil, List.cons_append, List.nil_append]
  entry_read
  pointwise

/-- The same 37 rows three times, one above the other, read at a packed channel. -/
theorem concat_apply (x : FVec Ideal S37x197 .f32) (a : Fin 111) (o : Fin 197) :
    concatenate S111x197 0 [⟨S37x197, x⟩, ⟨S37x197, x⟩, ⟨S37x197, x⟩] concatenates_S37x197_S37x197_S37x197_S111x197_d0 (ix2 a o)
      = x (ix2 (Net.chan a.val) o) := by
  pointwise
  split_ifs <;> exact congrArg (fun k => x (ix2 k o)) (Fin.ext (by dsimp only [Net.chan]; omega))

/-- The repeated columns are the 37 columns three times over. -/
theorem v40_eq : (V m c main_v40 : FVec Ideal S111x197 .f32) = concatenate S111x197 0
    [⟨S37x197, (V m c main_v39 : FVec Ideal S37x197 .f32)⟩, ⟨S37x197, (V m c main_v39 : FVec Ideal S37x197 .f32)⟩,
      ⟨S37x197, (V m c main_v39 : FVec Ideal S37x197 .f32)⟩] concatenates_S37x197_S37x197_S37x197_S111x197_d0 := by
  have key : ∃ W : Valuation τ sig (Elt Ideal), (V m c main_v40 : FVec Ideal S111x197 .f32) = concatenate S111x197 0
      [⟨S37x197, (W (Proc.devRef .tc main_v39) : FVec Ideal S37x197 .f32)⟩,
        ⟨S37x197, (W (Proc.devRef .tc main_v39) : FVec Ideal S37x197 .f32)⟩,
        ⟨S37x197, (W (Proc.devRef .tc main_v39) : FVec Ideal S37x197 .f32)⟩] concatenates_S37x197_S37x197_S37x197_S111x197_d0
      ∧ V m c main_v39 = W (Proc.devRef .tc main_v39) := by
    unfold V
    simp only [hostOps0, hostOps0_1, hostOps0_2, hostOps0_3, hostOps0_4, hostOps0_5, hostOps0_6, List.flatten_cons,
      List.flatten_nil, List.append_nil, List.cons_append, List.nil_append, StableHlo.after_cons, StableHlo.after_nil]
    refine ⟨?_, ?_, ?_⟩
    rotate_left
    · iterate 6 (rw [StableHlo.unary_result_ne]; rotate_left; decide)
      rw [StableHlo.nary_result]
      rfl
    · iterate 6 (rw [StableHlo.unary_result_ne]; rotate_left; decide)
      rw [StableHlo.nary_result_ne]
      decide
  obtain ⟨W, h40, h39⟩ := key
  rw [h40, h39]

/-- The last layer's 37 columns that read the filters' mean, transposed and repeated for each packed slot. -/
theorem v40_apply (a : Fin 111) (o : Fin 197) : (V m c main_v40 : FVec Ideal S111x197 .f32) (ix2 a o)
    = (m ((c.tc : Thread nD τ).loc main_arg14) : FVec Ideal S197x197 .f32) (ix2 o ⟨32 + (Net.chan a.val).val, by omega⟩) := by
  rw [v40_eq, concat_apply]
  exact v39_apply m c (Net.chan a.val) o

end Cert.Proof

end
-- ==== Proof.Gather.lean ====
/- Table look-ups whose row numbers are all zero, and the row numbers that features between zero and one give. -/
module

public import proofs.«01_k».proof.Proof.Spec
public import proofs.«01_k».proof.Proof.Gen.ReferenceIdeal.Read

@[expose] public section

set_option maxRecDepth 16384

noncomputable section

namespace Cert.Proof

open Cert.ReferenceIdeal Cert.ReferenceIdeal.Gen Cert.ReferenceIdeal.Read Idealize.ShloMosaic Idealize.ShloMosaic.TcCoe Idealize.SL.Sem

/-- A feature at least zero and below one truncates to the word zero. -/
theorem fptosi_zero {x : EReal} (h0 : 0 ≤ x) (h1 : x < 1) : Ideal.fptosi 32 x = 0#32 := by
  induction x with
  | bot => simp at h0
  | top => simp at h1
  | coe r =>
    have h0' : 0 ≤ r := by exact_mod_cast h0
    have h1' : r < 1 := by exact_mod_cast h1
    unfold Ideal.fptosi
    rw [Ideal.toIntClamped_coe, if_pos h0', Int.floor_eq_zero_iff.mpr ⟨h0', h1'⟩]
    rfl

/-- Where every start index is zero and no axis is a batching one, a look-up reads from the table's origin on. -/
theorem gather_origin {s si t : Shape} {α : Type} (d : GatherDims s si t) (x : s.Idx → α) (idx : IVec si 32)
    (hb : d.operandBatchingDims = []) (h : ∀ i, idx i = 0#32) (j : t.Idx) (k : s.Idx) (hk : ∀ a, (k a).val = d.offCoord j a) :
    Host.gather d x idx j = x k := by
  unfold Host.gather
  refine congrArg x (funext fun a => Fin.ext ?_)
  show d.start j idx a + d.batchCoord j a + d.offCoord j a = (k a).val
  have hs : d.start j idx a = 0 := by
    unfold GatherDims.start
    split_ifs with hm
    · rw [h]; simp
    · rfl
  rw [hs, d.batchCoord_eq_zero j a (by rw [hb]; exact List.not_mem_nil), Nat.zero_add]
  exact (hk a).symm

/-- The type look-up reads row 0 of its table where every row number is zero. -/
theorem gather_ty (x : FVec Ideal S30x32 .f32) (idx : IVec S16384x1 32) (h : ∀ i, idx i = 0#32) (r : Fin 16384) (i : Fin 32) :
    Host.gather gather_S30x32_S16384x1_S16384x32_1_0_n_n_0_1_132 x idx (ix2 r i) = x (ix2 0 i) :=
  gather_origin _ _ _ rfl h _ _ fun a => match a with
    | ⟨0, _⟩ => rfl
    | ⟨1, _⟩ => rfl

/-- The join look-up reads row 0 of its table where every row number is zero. -/
theorem gather_jn (x : FVec Ideal S300x32 .f32) (idx : IVec S16384x1 32) (h : ∀ i, idx i = 0#32) (r : Fin 16384) (i : Fin 32) :
    Host.gather gather_S300x32_S16384x1_S16384x32_1_0_n_n_0_1_132 x idx (ix2 r i) = x (ix2 0 i) :=
  gather_origin _ _ _ rfl h _ _ fun a => match a with
    | ⟨0, _⟩ => rfl
    | ⟨1, _⟩ => rfl

/-- The table look-up reads row 0 of its table where every row number is zero. -/
theorem gather_tb (x : FVec Ideal S40x32 .f32) (idx : IVec S16384x1 32) (h : ∀ i, idx i = 0#32) (r : Fin 16384) (i : Fin 32) :
    Host.gather gather_S40x32_S16384x1_S16384x32_1_0_n_n_0_1_132 x idx (ix2 r i) = x (ix2 0 i) :=
  gather_origin _ _ _ rfl h _ _ fun a => match a with
    | ⟨0, _⟩ => rfl
    | ⟨1, _⟩ => rfl

/-- The column look-up reads row 0 of its table where every row number is zero. -/
theorem gather_col (x : FVec Ideal S550x32 .f32) (idx : IVec S16384x23x1 32) (h : ∀ i, idx i = 0#32) (r : Fin 16384) (k : Fin 23) (i : Fin 32) :
    Host.gather gather_S550x32_S16384x23x1_S16384x23x32_2_0_n_n_0_2_132 x idx (ix3 r k i) = x (ix2 0 i) :=
  gather_origin _ _ _ rfl h _ _ fun a => match a with
    | ⟨0, _⟩ => rfl
    | ⟨1, _⟩ => rfl

/-- The operator look-up reads row 0 of its table where every row number is zero. -/
theorem gather_op (x : FVec Ideal S10x4 .f32) (idx : IVec S16384x23x1 32) (h : ∀ i, idx i = 0#32) (r : Fin 16384) (k : Fin 23) (i : Fin 4) :
    Host.gather gather_S10x4_S16384x23x1_S16384x23x4_2_0_n_n_0_2_14 x idx (ix3 r k i) = x (ix2 0 i) :=
  gather_origin _ _ _ rfl h _ _ fun a => match a with
    | ⟨0, _⟩ => rfl
    | ⟨1, _⟩ => rfl

/-- The row number a feature gives: its truncation, wrapped once by the table's height where it is negative. For a
    feature at least zero and below one it is zero. -/
theorem row_zero {x : EReal} (n : BitVec 32) (h : 0 ≤ x ∧ x < 1) :
    Scalar.select (IntOp.cmpi CmpIPredicate.slt (FloatOps.fptosi (F := Ideal) (φ := .f32) 32 x) 0#32)
      (IntOp.addi (FloatOps.fptosi (F := Ideal) (φ := .f32) 32 x) n) (FloatOps.fptosi (F := Ideal) (φ := .f32) 32 x) = 0#32 := by
  have e : FloatOps.fptosi (F := Ideal) (φ := .f32) 32 x = 0#32 := fptosi_zero h.1 h.2
  rw [e]
  rfl

/-- The ids of every row lie between zero and one. -/
def Ids (x0 : FVec Ideal S16384x2245 .f32) : Prop :=
  ∀ (r : Fin 16384) (i : Fin 2245), (i.val < 48 ∨ i.val = 94) → 0 ≤ x0 (ix2 r i) ∧ x0 (ix2 r i) < 1

variable {x0 : FVec Ideal S16384x2245 .f32}

/-- Every type row number is zero. -/
theorem v14_zero (h : Ids x0) (i : S16384x1.Idx) : val_main_v14 (F := Ideal) x0 i = 0#32 := by
  idx_vars i
  pointwise [val_main_v14, val_main_v13, val_main_v12, val_main_v11, val_main_v10, val_main_v9, val_main_v8, val_main_v7, val_main_v0, val_main_c, val_main_c_0]
  exact row_zero _ (h _ _ (by decide))

/-- The type embedding of every row is the table's row 0. -/
theorem v15_apply (h : Ids x0) (x1 : FVec Ideal S30x32 .f32) (r : Fin 16384) (i : Fin 32) :
    val_main_v15 (F := Ideal) x0 x1 (ix2 r i) = x1 (ix2 0 i) :=
  gather_ty x1 _ (v14_zero h) r i

/-- Every join row number is zero. -/
theorem v23_zero (h : Ids x0) (i : S16384x1.Idx) : val_main_v23 (F := Ideal) x0 i = 0#32 := by
  idx_vars i
  pointwise [val_main_v23, val_main_v22, val_main_v21, val_main_v20, val_main_v19, val_main_v18, val_main_v17, val_main_v16, val_main_v1, val_main_c_1, val_main_c_2]
  exact row_zero _ (h _ _ (by decide))

/-- The join embedding of every row is the table's row 0. -/
theorem v24_apply (h : Ids x0) (x5 : FVec Ideal S300x32 .f32) (r : Fin 16384) (i : Fin 32) :
    val_main_v24 (F := Ideal) x0 x5 (ix2 r i) = x5 (ix2 0 i) :=
  gather_jn x5 _ (v23_zero h) r i

/-- Every table row number is zero. -/
theorem v32_zero (h : Ids x0) (i : S16384x1.Idx) : val_main_v32 (F := Ideal) x0 i = 0#32 := by
  idx_vars i
  pointwise [val_main_v32, val_main_v31, val_main_v30, val_main_v29, val_main_v28, val_main_v27, val_main_v26, val_main_v25, val_main_v4, val_main_c_3, val_main_c_4]
  exact row_zero _ (h _ _ (by decide))

/-- The table embedding of every row is the table's row 0. -/
theorem v33_apply (h : Ids x0) (x2 : FVec Ideal S40x32 .f32) (r : Fin 16384) (i : Fin 32) :
    val_main_v33 (F := Ideal) x0 x2 (ix2 r i) = x2 (ix2 0 i) :=
  gather_tb x2 _ (v32_zero h) r i

/-- Every column row number is zero. -/
theorem v50_zero (h : Ids x0) (i : S16384x23x1.Idx) : val_main_v50 (F := Ideal) x0 i = 0#32 := by
  idx_vars i
  pointwise [val_main_v50, val_main_v49, val_main_v48, val_main_v47, val_main_v46, val_main_v45, val_main_v44, val_main_v43, val_main_v42, val_main_v41, val_main_v40, val_main_v39, val_main_v38, val_main_v37, val_main_v36, val_main_v35, val_main_v34, val_main_v2, val_main_c_5, val_main_c_6]
  exact row_zero _ (h _ _ (by dsimp only; omega))

/-- The column embedding of every filter slot is the table's row 0. -/
theorem v51_apply (h : Ids x0) (x3 : FVec Ideal S550x32 .f32) (r : Fin 16384) (k : Fin 23) (i : Fin 32) :
    val_main_v51 (F := Ideal) x0 x3 (ix3 r k i) = x3 (ix2 0 i) :=
  gather_col x3 _ (v50_zero h) r k i

/-- Every operator row number is zero. -/
theorem v57_zero (h : Ids x0) (i : S16384x23x1.Idx) : val_main_v57 (F := Ideal) x0 i = 0#32 := by
  idx_vars i
  pointwise [val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v2, val_main_c_7, val_main_c_8]
  exact row_zero _ (h _ _ (by dsimp only; omega))

/-- The operator embedding of every filter slot is the table's row 0. -/
theorem v58_apply (h : Ids x0) (x4 : FVec Ideal S10x4 .f32) (r : Fin 16384) (k : Fin 23) (i : Fin 4) :
    val_main_v58 (F := Ideal) x0 x4 (ix3 r k i) = x4 (ix2 0 i) :=
  gather_op x4 _ (v57_zero h) r k i

end Cert.Proof

end
-- ==== Proof.RefValue.lean ====
/- What the reference computes: its result read at an index is the network on that row. -/
module

public import proofs.«01_k».proof.Proof.Gather

@[expose] public section

set_option maxRecDepth 16384

noncomputable section

namespace Cert.Proof

open Cert.ReferenceIdeal Cert.ReferenceIdeal.Gen Cert.ReferenceIdeal.Read Idealize.ShloMosaic Idealize.ShloMosaic.TcCoe Idealize.SL.Sem

variable (x0 : FVec Ideal S16384x2245 .f32) (x1 : FVec Ideal S30x32 .f32) (x2 : FVec Ideal S40x32 .f32)
  (x3 : FVec Ideal S550x32 .f32) (x4 : FVec Ideal S10x4 .f32) (x5 : FVec Ideal S300x32 .f32)
  (x6 : FVec Ideal S37x37 .f32) (x7 : FVec Ideal S37 .f32) (x8 : FVec Ideal S37x37 .f32) (x9 : FVec Ideal S37 .f32)
  (x10 : FVec Ideal S32x1000 .f32) (x11 : FVec Ideal S32 .f32) (x12 : FVec Ideal S32x50 .f32) (x13 : FVec Ideal S32 .f32)
  (x14 : FVec Ideal S197x197 .f32) (x15 : FVec Ideal S197 .f32)

/-- The network's weights from the argument arrays. -/
def net : Net where
  ty i := x1 (ix2 0 i)
  tb i := x2 (ix2 0 i)
  col i := x3 (ix2 0 i)
  op i := x4 (ix2 0 i)
  jn i := x5 (ix2 0 i)
  Wf a b := x6 (ix2 a b)
  bf a := x7 (ix1 a)
  Wf2 a b := x8 (ix2 a b)
  bf2 a := x9 (ix1 a)
  Ws a b := x10 (ix2 a b)
  bs a := x11 (ix1 a)
  Wh a b := x12 (ix2 a b)
  bh a := x13 (ix1 a)
  Wp a b := x14 (ix2 a b)
  bp a := x15 (ix1 a)

/-- Row `r` of the features. -/
def feat (r : Fin 16384) (i : Fin 2245) : EReal := x0 (ix2 r i)

variable {x0}

/-- A sum over `a + b` places is the sum over the first `a` and the sum over the last `b`. -/
theorem sum_split (a b n : Nat) (hn : n = a + b) (f : Fin n → EReal) :
    ∑ x : Fin n, f x = (∑ i : Fin a, f ⟨i.val, by omega⟩) + ∑ i : Fin b, f ⟨a + i.val, by omega⟩ := by
  subst hn
  exact Fin.sum_univ_add f

/-- The product of a row put together of 32, 4 and 1 entries with a row of weights. -/
theorem concat37 (A : Fin 32 → EReal) (B : Fin 4 → EReal) (v : EReal) (w : Fin 37 → EReal) :
    ∑ x : Fin 37, (if h : x.val < 32 then A ⟨x.val, h⟩ else if h : x.val - 32 < 4 then B ⟨x.val - 32, h⟩ else v) * w x
      = (∑ i : Fin 32, A i * w ⟨i.val, by omega⟩) + (∑ i : Fin 4, B i * w ⟨32 + i.val, by omega⟩) + v * w 36 := by
  rw [sum_split 32 5 37 rfl, sum_split 4 1 5 rfl, ← add_assoc]
  simp

/-- The product of a row put together of 32, 37 and four times 32 entries with a row of weights. -/
theorem concat197 (A : Fin 32 → EReal) (B : Fin 37 → EReal) (C D E G : Fin 32 → EReal) (w : Fin 197 → EReal) :
    ∑ x : Fin 197, (if h : x.val < 32 then A ⟨x.val, h⟩ else if h : x.val - 32 < 37 then B ⟨x.val - 32, h⟩
        else if h : x.val - 32 - 37 < 32 then C ⟨x.val - 32 - 37, h⟩
        else if h : x.val - 32 - 37 - 32 < 32 then D ⟨x.val - 32 - 37 - 32, h⟩
        else if h : x.val - 32 - 37 - 32 - 32 < 32 then E ⟨x.val - 32 - 37 - 32 - 32, h⟩
        else G ⟨x.val - 32 - 37 - 32 - 32 - 32, by omega⟩) * w x
      = (∑ i : Fin 32, A i * w ⟨i.val, by omega⟩) + (∑ i : Fin 37, B i * w ⟨32 + i.val, by omega⟩)
        + (∑ i : Fin 32, C i * w ⟨69 + i.val, by omega⟩) + (∑ i : Fin 32, D i * w ⟨101 + i.val, by omega⟩)
        + (∑ i : Fin 32, E i * w ⟨133 + i.val, by omega⟩) + (∑ i : Fin 32, G i * w ⟨165 + i.val, by omega⟩) := by
  rw [sum_split 165 32 197 rfl, sum_split 133 32 165 rfl, sum_split 101 32 133 rfl, sum_split 69 32 101 rfl,
    sum_split 32 37 69 rfl]
  congr 1

/-- Channel `c` of the first filter layer in slot `k`. -/
theorem v65_apply (h : Ids x0) (r : Fin 16384) (k : Fin 23) (c : Fin 37) :
    val_main_v65 (F := Ideal) x0 x3 x4 x6 x7 (ix3 r k c)
      = (net x1 x2 x3 x4 x5 x6 x7 x8 x9 x10 x11 x12 x13 x14 x15).layer1 (Net.val (feat x0 r) k) c := by
  have e : (∑ x : Fin 37, (if h : x.val < 32 then x3 (ix2 0 ⟨x.val, h⟩) else if h : x.val - 32 < 4 then x4 (ix2 0 ⟨x.val - 32, h⟩)
        else x0 (ix2 r ⟨2 + (46 + k.val), by omega⟩)) * x6 (ix2 c x)) + x7 (ix1 c)
      = Net.val (feat x0 r) k * (net x1 x2 x3 x4 x5 x6 x7 x8 x9 x10 x11 x12 x13 x14 x15).Wf c 36
        + (net x1 x2 x3 x4 x5 x6 x7 x8 x9 x10 x11 x12 x13 x14 x15).base c := by
    refine (congrArg (· + x7 (ix1 c)) (concat37 (fun i => x3 (ix2 0 i)) (fun i => x4 (ix2 0 i)) _ (fun x => x6 (ix2 c x)))).trans ?_
    have ek : Net.val (feat x0 r) k = x0 (ix2 r ⟨2 + (46 + k.val), by omega⟩) :=
      congrArg x0 (congrArg (ix2 r) (Fin.ext (by show 48 + k.val = 2 + (46 + k.val); omega)))
    rw [ek]
    dsimp only [Net.base, net]
    ac_rfl
  pointwise [val_main_v65, val_main_call0_v3, val_main_call0_v2, val_main_call0_cst_0, val_main_call0_v1, val_main_call0_v0,
    val_main_call0_cst, val_main_v64, val_main_v63, val_main_v62, val_main_v61, val_main_v60, val_main_v59, val_main_v44,
    val_main_v43, val_main_v42, val_main_v35, val_main_v34, val_main_v2]
  simp only [v51_apply h, v58_apply h]
  unfold Net.layer1 lrelu
  rw [← e]

/-- Channel `c` of the filters' mean. -/
theorem v81_apply (h : Ids x0) (r : Fin 16384) (hc : Net.count (feat x0 r) ≠ 0) (c : Fin 37) :
    val_main_v81 (F := Ideal) x0 x3 x4 x6 x7 x8 x9 (ix2 r c)
      = (net x1 x2 x3 x4 x5 x6 x7 x8 x9 x10 x11 x12 x13 x14 x15).filt (feat x0 r) c := by
  pointwise [val_main_v81, val_main_v80, val_main_v79, val_main_v78, val_main_cst_11, val_main_cst_10, val_main_v77,
    val_main_v76, val_main_call2_v2, val_main_call2_v1, val_main_call2_v0, val_main_cst_9, val_main_v75, val_main_v74,
    val_main_v73, val_main_v72, val_main_v3, val_main_cst, val_main_v71, val_main_call1_v3, val_main_call1_v2,
    val_main_call1_cst_0, val_main_call1_v1, val_main_call1_v0, val_main_call1_cst, val_main_v70, val_main_v69,
    val_main_v68, val_main_v67, val_main_v66, id]
  simp only [v65_apply x1 x2 x3 x4 x5 x6 x7 x8 x9 x10 x11 x12 x13 x14 x15 h]
  exact div_of_ne hc

/-- Channel `c` of the histograms' mean. -/
theorem v94_apply (r : Fin 16384) (hc : Net.count (feat x0 r) ≠ 0) (c : Fin 32) :
    val_main_v94 (F := Ideal) x0 x12 x13 (ix2 r c)
      = (net x1 x2 x3 x4 x5 x6 x7 x8 x9 x10 x11 x12 x13 x14 x15).hist (feat x0 r) c := by
  pointwise [val_main_v94, val_main_v93, val_main_v92, val_main_v91, val_main_v90, val_main_v89, val_main_v88, val_main_v87, val_main_v86, val_main_v85, val_main_v84, val_main_v83, val_main_v82, val_main_v77, val_main_v5, val_main_cst_13, val_main_cst_12, val_main_cst_10, val_main_call3_v0, val_main_call3_v1, val_main_call3_v2, val_main_v74, val_main_v73, val_main_v72, val_main_v3, val_main_cst, id]
  exact div_of_ne hc

/-- The reference at row `r` and output `o` is the network on that row. -/
theorem v106_apply (h : Ids x0) (r : Fin 16384) (hc : Net.count (feat x0 r) ≠ 0) (o : Fin 197) :
    val_main_v106 (F := Ideal) x0 x1 x2 x3 x4 x5 x6 x7 x8 x9 x10 x11 x12 x13 x14 x15 (ix2 r o)
      = (net x1 x2 x3 x4 x5 x6 x7 x8 x9 x10 x11 x12 x13 x14 x15).out (feat x0 r) o := by
  pointwise [val_main_v106, val_main_call4_v3, val_main_call4_v2, val_main_call4_cst_0, val_main_call4_v1, val_main_call4_v0, val_main_call4_cst, val_main_v105, val_main_v104, val_main_v103, val_main_v102, val_main_v101, val_main_v100, val_main_v99, val_main_v98, val_main_v97, val_main_v96, val_main_v95, val_main_v6]
  simp only [v15_apply h, v24_apply h, v33_apply h, v81_apply x1 x2 x3 x4 x5 x6 x7 x8 x9 x10 x11 x12 x13 x14 x15 h r hc,
    v94_apply x1 x2 x3 x4 x5 x6 x7 x8 x9 x10 x11 x12 x13 x14 x15 r hc]
  have e := congrArg (fun v : EReal => if 0 ≤ v + x15 (ix1 o) then v + x15 (ix1 o) else slope * (v + x15 (ix1 o)))
    (concat197 (fun i => x1 (ix2 0 i)) ((net x1 x2 x3 x4 x5 x6 x7 x8 x9 x10 x11 x12 x13 x14 x15).filt (feat x0 r)) (fun i => x5 (ix2 0 i)) (fun i => x2 (ix2 0 i))
      ((net x1 x2 x3 x4 x5 x6 x7 x8 x9 x10 x11 x12 x13 x14 x15).hist (feat x0 r)) ((net x1 x2 x3 x4 x5 x6 x7 x8 x9 x10 x11 x12 x13 x14 x15).samp (feat x0 r)) (fun x => x14 (ix2 o x)))
  exact e

end Cert.Proof

end
-- ==== Proof.Tame.lean ====
/- What the precondition says of the arguments: the row numbers in the features are zero, the divisors are not, and all
   that enters the packed filter layers is finite. -/
module

public import proofs.«01_k».proof.Pre_tame
public import proofs.«01_k».proof.Proof.RefValue

@[expose] public section

set_option maxRecDepth 16384

noncomputable section

namespace Cert.Proof

open Cert.Pre_tame Idealize.ShloMosaic Idealize.ShloMosaic.TcCoe

/-- The shape relations of the precondition's operations hold. -/
theorem tame_facts : Cert.Pre_tame.Facts := by constructor <;> decide

/-- A comparison that gives one is true. -/
theorem ofBool_one {p : Prop} [Decidable p] (h : BitVec.ofBool (decide p) = 1#1) : p := by
  by_contra hp
  rw [decide_eq_false hp] at h
  exact absurd h (by decide)

/-- The infinite word stands for the top value. -/
theorem inf_eq : Ideal.ofBits .f32 0x7F800000#32 = ⊤ := by
  simp [Ideal.ofBits, Ideal.ieee]

/-- An entry whose magnitude is below the infinite word is a real number. -/
theorem real_of_mask {s : Shape} (hb : S_.BroadcastsInDim s ![]) (x : FVec Ideal s .f32) (i : s.Idx)
    (h : cmpf .olt (Host.absf x) (broadcastInDim s ![] hb (constant S_ .f32 0x7F800000#32 : FVec Ideal S_ .f32)) i = 1#1) :
    IsReal (x i) := by
  have h' : max (x i) (-(x i)) < Ideal.ofBits .f32 0x7F800000#32 := ofBool_one h
  rw [inf_eq] at h'
  exact IsReal.of_abs h'

/-- An entry whose comparison with the zero word gives one is at or above zero. -/
theorem nonneg_of_mask {s : Shape} (hb : S_.BroadcastsInDim s ![]) (x : FVec Ideal s .f32) (i : s.Idx)
    (h : cmpf .oge x (broadcastInDim s ![] hb (constant S_ .f32 0x00000000#32 : FVec Ideal S_ .f32)) i = 1#1) :
    0 ≤ x i := by
  have h' : Ideal.ofBits .f32 0x00000000#32 ≤ x i := ofBool_one h
  rwa [Ideal.ofBits_zero_f32] at h'

/-- An entry whose comparison with the word of one gives one is below one. -/
theorem lt_one_of_mask {s : Shape} (hb : S_.BroadcastsInDim s ![]) (x : FVec Ideal s .f32) (i : s.Idx)
    (h : cmpf .olt x (broadcastInDim s ![] hb (constant S_ .f32 0x3F800000#32 : FVec Ideal S_ .f32)) i = 1#1) :
    x i < 1 := by
  have h' : x i < Ideal.ofBits .f32 0x3F800000#32 := ofBool_one h
  rwa [Ideal.ofBits_one_f32] at h'

/-- An entry whose inequality with the zero word gives one is not zero. -/
theorem ne_zero_of_mask {s : Shape} (hb : S_.BroadcastsInDim s ![]) (x : FVec Ideal s .f32) (i : s.Idx)
    (h : cmpf .une x (broadcastInDim s ![] hb (constant S_ .f32 0x00000000#32 : FVec Ideal S_ .f32)) i = 1#1) :
    x i ≠ 0 := by
  have h' : x i ≠ Ideal.ofBits .f32 0x00000000#32 := ofBool_one h
  rwa [Ideal.ofBits_zero_f32] at h'

variable (x0 : FVec Ideal S16384x2245 .f32) (x1 : FVec Ideal S30x32 .f32) (x2 : FVec Ideal S40x32 .f32)
  (x3 : FVec Ideal S550x32 .f32) (x4 : FVec Ideal S10x4 .f32) (x5 : FVec Ideal S300x32 .f32)
  (x6 : FVec Ideal S37x37 .f32) (x7 : FVec Ideal S37 .f32) (x8 : FVec Ideal S37x37 .f32) (x9 : FVec Ideal S37 .f32)
  (x10 : FVec Ideal S32x1000 .f32) (x11 : FVec Ideal S32 .f32) (x12 : FVec Ideal S32x50 .f32) (x13 : FVec Ideal S32 .f32)
  (x14 : FVec Ideal S197x197 .f32) (x15 : FVec Ideal S197 .f32)

/-- Every comparison the precondition makes gives one at every place. -/
def Masks [Cert.Pre_tame.Facts] : Prop :=
  (Cert.Pre_tame.fn (F := Ideal) x0 x1 x2 x3 x4 x5 x6 x7 x8 x9 x10 x11 x12 x13 x14 x15).1 = (fun _ => 1#1)
      ∧ (Cert.Pre_tame.fn (F := Ideal) x0 x1 x2 x3 x4 x5 x6 x7 x8 x9 x10 x11 x12 x13 x14 x15).2.1 = (fun _ => 1#1)
      ∧ (Cert.Pre_tame.fn (F := Ideal) x0 x1 x2 x3 x4 x5 x6 x7 x8 x9 x10 x11 x12 x13 x14 x15).2.2.1 = (fun _ => 1#1)
      ∧ (Cert.Pre_tame.fn (F := Ideal) x0 x1 x2 x3 x4 x5 x6 x7 x8 x9 x10 x11 x12 x13 x14 x15).2.2.2.1 = (fun _ => 1#1)
      ∧ (Cert.Pre_tame.fn (F := Ideal) x0 x1 x2 x3 x4 x5 x6 x7 x8 x9 x10 x11 x12 x13 x14 x15).2.2.2.2.1 = (fun _ => 1#1)
      ∧ (Cert.Pre_tame.fn (F := Ideal) x0 x1 x2 x3 x4 x5 x6 x7 x8 x9 x10 x11 x12 x13 x14 x15).2.2.2.2.2.1 = (fun _ => 1#1)
      ∧ (Cert.Pre_tame.fn (F := Ideal) x0 x1 x2 x3 x4 x5 x6 x7 x8 x9 x10 x11 x12 x13 x14 x15).2.2.2.2.2.2.1 = (fun _ => 1#1)
      ∧ (Cert.Pre_tame.fn (F := Ideal) x0 x1 x2 x3 x4 x5 x6 x7 x8 x9 x10 x11 x12 x13 x14 x15).2.2.2.2.2.2.2.1 = (fun _ => 1#1)
      ∧ (Cert.Pre_tame.fn (F := Ideal) x0 x1 x2 x3 x4 x5 x6 x7 x8 x9 x10 x11 x12 x13 x14 x15).2.2.2.2.2.2.2.2.1 = (fun _ => 1#1)
      ∧ (Cert.Pre_tame.fn (F := Ideal) x0 x1 x2 x3 x4 x5 x6 x7 x8 x9 x10 x11 x12 x13 x14 x15).2.2.2.2.2.2.2.2.2.1 = (fun _ => 1#1)
      ∧ (Cert.Pre_tame.fn (F := Ideal) x0 x1 x2 x3 x4 x5 x6 x7 x8 x9 x10 x11 x12 x13 x14 x15).2.2.2.2.2.2.2.2.2.2.1 = (fun _ => 1#1)
      ∧ (Cert.Pre_tame.fn (F := Ideal) x0 x1 x2 x3 x4 x5 x6 x7 x8 x9 x10 x11 x12 x13 x14 x15).2.2.2.2.2.2.2.2.2.2.2.1 = (fun _ => 1#1)
      ∧ (Cert.Pre_tame.fn (F := Ideal) x0 x1 x2 x3 x4 x5 x6 x7 x8 x9 x10 x11 x12 x13 x14 x15).2.2.2.2.2.2.2.2.2.2.2.2 = (fun _ => 1#1)

variable {x0 x1 x2 x3 x4 x5 x6 x7 x8 x9 x10 x11 x12 x13 x14 x15}

/-- Under the precondition every row number in the features lies in [0, 1). -/
theorem Masks.ids [Cert.Pre_tame.Facts] (h : Masks x0 x1 x2 x3 x4 x5 x6 x7 x8 x9 x10 x11 x12 x13 x14 x15) : Ids x0 := by
  obtain ⟨h0, h1, h2, h3, -⟩ := h
  rintro r i (hi | hi)
  · have a := nonneg_of_mask _ _ _ (congrFun h0 (ix2 r (⟨i.val, hi⟩ : Fin 48)))
    have b := lt_one_of_mask _ _ _ (congrFun h1 (ix2 r (⟨i.val, hi⟩ : Fin 48)))
    have e : ∀ hs, extractStridedSlice S16384x48 ![0, 0] x0 hs (ix2 r (⟨i.val, hi⟩ : Fin 48)) = x0 (ix2 r i) := fun hs => by
      pointwise
    beta_reduce at a b
    rw [e] at a b
    exact ⟨a, b⟩
  · have a := nonneg_of_mask _ _ _ (congrFun h2 (ix2 r (0 : Fin 1)))
    have b := lt_one_of_mask _ _ _ (congrFun h3 (ix2 r (0 : Fin 1)))
    have e : ∀ hs, extractStridedSlice S16384x1 ![0, 94] x0 hs (ix2 r (0 : Fin 1)) = x0 (ix2 r i) := fun hs => by
      pointwise
      exact congrArg x0 (congrArg (ix2 r) (Fin.ext hi.symm))
    beta_reduce at a b
    rw [e] at a b
    exact ⟨a, b⟩

/-- Under the precondition every row's masks have a sum other than zero and all that enters the filter layers, with the
    last layer's columns reading their mean, is finite. -/
theorem Masks.tame [Cert.Pre_tame.Facts] (h : Masks x0 x1 x2 x3 x4 x5 x6 x7 x8 x9 x10 x11 x12 x13 x14 x15) (r : Fin 16384) :
    (net x1 x2 x3 x4 x5 x6 x7 x8 x9 x10 x11 x12 x13 x14 x15).Tame (feat x0 r) := by
  obtain ⟨-, -, -, -, h4, h5, h6, h7, h8, h9, h10, h11, h12⟩ := h
  refine ⟨fun k => ?_, fun i => ?_, fun i => ?_, fun c i => ?_, fun c => ?_, fun d c => ?_, fun d => ?_, fun o d => ?_, ?_⟩
  · have a := real_of_mask _ _ _ (congrFun h5 (ix2 r k))
    have e : ∀ hs, extractStridedSlice S16384x23 ![0, 48] x0 hs (ix2 r k) = Net.val (feat x0 r) k := fun hs => by
      pointwise
      rfl
    beta_reduce at a
    rw [e] at a
    exact a
  · have a := real_of_mask _ _ _ (congrFun h6 (ix2 (0 : Fin 1) i))
    have e : ∀ hs, extractStridedSlice S1x32 ![0, 0] x3 hs (ix2 (0 : Fin 1) i) = x3 (ix2 0 i) := fun hs => by
      pointwise
    beta_reduce at a
    rw [e] at a
    exact a
  · have a := real_of_mask _ _ _ (congrFun h7 (ix2 (0 : Fin 1) i))
    have e : ∀ hs, extractStridedSlice S1x4 ![0, 0] x4 hs (ix2 (0 : Fin 1) i) = x4 (ix2 0 i) := fun hs => by
      pointwise
    beta_reduce at a
    rw [e] at a
    exact a
  · exact real_of_mask _ _ _ (congrFun h8 (ix2 c i))
  · exact real_of_mask _ _ _ (congrFun h9 (ix1 c))
  · exact real_of_mask _ _ _ (congrFun h10 (ix2 d c))
  · exact real_of_mask _ _ _ (congrFun h11 (ix1 d))
  · have a := real_of_mask _ _ _ (congrFun h12 (ix2 o d))
    have e : ∀ hs, extractStridedSlice S197x37 ![0, 32] x14 hs (ix2 o d) = x14 (ix2 o ⟨32 + d.val, by omega⟩) := fun hs => by
      pointwise
    beta_reduce at a
    rw [e] at a
    exact a
  · have a := ne_zero_of_mask _ _ _ (congrFun h4 (ix1 r))
    have e : ∀ hs (hr : S16384x23.ReducesTo [1] S16384) hz, (Host.reduceAdd (extractStridedSlice S16384x23 ![0, 71] x0 hs : FVec Ideal S16384x23 .f32)
        (constant S_ .f32 0x00000000#32 : FVec Ideal S_ .f32) hr hz : FVec Ideal S16384 .f32) (ix1 r) = Net.count (feat x0 r) := fun hs hr hz => by
      pointwise
      rfl
    beta_reduce at a
    rw [e] at a
    exact a

end Cert.Proof

end
-- ==== Proof.Point.lean ====
/- What one grid point leaves in its output block: on each row, the network on the features' row. -/
module

public import Idealize.ShloMosaic.Lib.Pipeline.ValueKit
public import proofs.«01_k».proof.Proof.Block
public import proofs.«01_k».proof.Proof.Weights
public import proofs.«01_k».proof.Proof.Tame

@[expose] public section

set_option maxRecDepth 16384

noncomputable section

namespace Cert.Proof

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Where the windows' blocks sit: the features' and the result's at the point's rows, every other at the origin. -/
theorem idx : ∀ t : Fin cfg0.N, win0_0.index t = ![t.val, 0] ∧ win0_21.index t = ![t.val, 0]
    ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_9.index t = ![0, 0]
    ∧ win0_10.index t = ![0, 0] ∧ win0_11.index t = ![0, 0] ∧ win0_12.index t = ![0, 0] ∧ win0_13.index t = ![0, 0]
    ∧ win0_14.index t = ![0, 0] ∧ win0_15.index t = ![0, 0] ∧ win0_16.index t = ![0, 0] ∧ win0_17.index t = ![0, 0]
    ∧ win0_18.index t = ![0, 0] ∧ win0_19.index t = ![0, 0] ∧ win0_20.index t = ![0, 0] :=
  (by decide +kernel : ∀ t : Fin grid0.N, _)

/-- The network's weights as launched on device `c`. -/
def argNet : Net :=
  net (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9))
    (m ((c.tc : Thread nD τ).loc main_arg10)) (m ((c.tc : Thread nD τ).loc main_arg11)) (m ((c.tc : Thread nD τ).loc main_arg12))
    (m ((c.tc : Thread nD τ).loc main_arg13)) (m ((c.tc : Thread nD τ).loc main_arg14)) (m ((c.tc : Thread nD τ).loc main_arg15))

/-- Row `r` of the features as launched on device `c`. -/
abbrev argRow (r : Fin 16384) (i : Fin 2245) : EReal :=
  feat (m ((c.tc : Thread nD τ).loc main_arg0)) r i

/-- What the result array ends at: the network on each row. -/
def result : FVec Ideal S16384x197 .f32 := fun i => (argNet m c).out (argRow m c (i 0)) (i 1)

/-- Block `t` of the features is rows `2048 t` on. -/
theorem iblk0_apply (t : Fin cfg0.N) (r : Fin 2048) (i : Fin 2245) (R : Fin 16384) (hR : R.val = t.val * 2048 + r.val) :
    (iblk m c 0 t : FVec Ideal S2048x2245 .f32) (ix2 r i) = argRow m c R i := by
  refine Eq.trans ?_ (congrFun (V_arg m c main_arg0 (by decide)) (ix2 R i))
  blk_ext [iblk, idx t]

/-- Window 1's block is argument 1. -/
theorem iblk1_apply (t : Fin cfg0.N) (a : Fin 30) (b : Fin 32) :
    (iblk m c 1 t : FVec Ideal S30x32 .f32) (ix2 a b) = (m ((c.tc : Thread nD τ).loc main_arg1) : FVec Ideal S30x32 .f32) (ix2 a b) := by
  refine Eq.trans ?_ (congrFun (V_arg m c main_arg1 (by decide)) (ix2 a b))
  blk_ext [iblk, idx t]

/-- Window 2's block is argument 2. -/
theorem iblk2_apply (t : Fin cfg0.N) (a : Fin 40) (b : Fin 32) :
    (iblk m c 2 t : FVec Ideal S40x32 .f32) (ix2 a b) = (m ((c.tc : Thread nD τ).loc main_arg2) : FVec Ideal S40x32 .f32) (ix2 a b) := by
  refine Eq.trans ?_ (congrFun (V_arg m c main_arg2 (by decide)) (ix2 a b))
  blk_ext [iblk, idx t]

/-- Window 3's block is argument 3. -/
theorem iblk3_apply (t : Fin cfg0.N) (a : Fin 550) (b : Fin 32) :
    (iblk m c 3 t : FVec Ideal S550x32 .f32) (ix2 a b) = (m ((c.tc : Thread nD τ).loc main_arg3) : FVec Ideal S550x32 .f32) (ix2 a b) := by
  refine Eq.trans ?_ (congrFun (V_arg m c main_arg3 (by decide)) (ix2 a b))
  blk_ext [iblk, idx t]

/-- Window 4's block is argument 4. -/
theorem iblk4_apply (t : Fin cfg0.N) (a : Fin 10) (b : Fin 4) :
    (iblk m c 4 t : FVec Ideal S10x4 .f32) (ix2 a b) = (m ((c.tc : Thread nD τ).loc main_arg4) : FVec Ideal S10x4 .f32) (ix2 a b) := by
  refine Eq.trans ?_ (congrFun (V_arg m c main_arg4 (by decide)) (ix2 a b))
  blk_ext [iblk, idx t]

/-- Window 5's block is argument 5. -/
theorem iblk5_apply (t : Fin cfg0.N) (a : Fin 300) (b : Fin 32) :
    (iblk m c 5 t : FVec Ideal S300x32 .f32) (ix2 a b) = (m ((c.tc : Thread nD τ).loc main_arg5) : FVec Ideal S300x32 .f32) (ix2 a b) := by
  refine Eq.trans ?_ (congrFun (V_arg m c main_arg5 (by decide)) (ix2 a b))
  blk_ext [iblk, idx t]

/-- Window 6's block is the prepared array it stages. -/
theorem iblk6_apply (t : Fin cfg0.N) (a : Fin 37) (b : Fin 37) :
    (iblk m c 6 t : FVec Ideal S37x37 .f32) (ix2 a b) = (V m c main_v41 : FVec Ideal S37x37 .f32) (ix2 a b) := by
  blk_ext [iblk, idx t]

/-- Window 7's block is the prepared array it stages. -/
theorem iblk7_apply (t : Fin cfg0.N) (a : Fin 1) (b : Fin 37) :
    (iblk m c 7 t : FVec Ideal S1x37 .f32) (ix2 a b) = (V m c main_v42 : FVec Ideal S1x37 .f32) (ix2 a b) := by
  blk_ext [iblk, idx t]

/-- Window 9's block is the prepared array it stages. -/
theorem iblk9_apply (t : Fin cfg0.N) (a : Fin 1) (b : Fin 37) :
    (iblk m c 9 t : FVec Ideal S1x37 .f32) (ix2 a b) = (V m c main_v43 : FVec Ideal S1x37 .f32) (ix2 a b) := by
  blk_ext [iblk, idx t]

/-- Window 10's block is the prepared array it stages. -/
theorem iblk10_apply (t : Fin cfg0.N) (a : Fin 1000) (b : Fin 32) :
    (iblk m c 10 t : FVec Ideal S1000x32 .f32) (ix2 a b) = (V m c main_v38 : FVec Ideal S1000x32 .f32) (ix2 a b) := by
  blk_ext [iblk, idx t]

/-- Window 11's block is the prepared array it stages. -/
theorem iblk11_apply (t : Fin cfg0.N) (a : Fin 1) (b : Fin 32) :
    (iblk m c 11 t : FVec Ideal S1x32 .f32) (ix2 a b) = (V m c main_v44 : FVec Ideal S1x32 .f32) (ix2 a b) := by
  blk_ext [iblk, idx t]

/-- Window 12's block is the prepared array it stages. -/
theorem iblk12_apply (t : Fin cfg0.N) (a : Fin 1150) (b : Fin 32) :
    (iblk m c 12 t : FVec Ideal S1150x32 .f32) (ix2 a b) = (V m c main_v12 : FVec Ideal S1150x32 .f32) (ix2 a b) := by
  blk_ext [iblk, idx t]

/-- Window 13's block is the prepared array it stages. -/
theorem iblk13_apply (t : Fin cfg0.N) (a : Fin 1) (b : Fin 32) :
    (iblk m c 13 t : FVec Ideal S1x32 .f32) (ix2 a b) = (V m c main_v45 : FVec Ideal S1x32 .f32) (ix2 a b) := by
  blk_ext [iblk, idx t]

/-- Window 14's block is the prepared array it stages. -/
theorem iblk14_apply (t : Fin cfg0.N) (a : Fin 197) (b : Fin 197) :
    (iblk m c 14 t : FVec Ideal S197x197 .f32) (ix2 a b) = (V m c main_v0 : FVec Ideal S197x197 .f32) (ix2 a b) := by
  blk_ext [iblk, idx t]

/-- Window 15's block is the prepared array it stages. -/
theorem iblk15_apply (t : Fin cfg0.N) (a : Fin 23) (b : Fin 1150) :
    (iblk m c 15 t : FVec Ideal S23x1150 .f32) (ix2 a b) = (V m c main_v9 : FVec Ideal S23x1150 .f32) (ix2 a b) := by
  blk_ext [iblk, idx t]

/-- Window 16's block is the prepared array it stages. -/
theorem iblk16_apply (t : Fin cfg0.N) (a : Fin 3) (b : Fin 111) :
    (iblk m c 16 t : FVec Ideal S3x111 .f32) (ix2 a b) = (V m c main_v29 : FVec Ideal S3x111 .f32) (ix2 a b) := by
  blk_ext [iblk, idx t]

/-- Window 17's block is the prepared array it stages. -/
theorem iblk17_apply (t : Fin cfg0.N) (a : Fin 3) (b : Fin 111) :
    (iblk m c 17 t : FVec Ideal S3x111 .f32) (ix2 a b) = (V m c main_v21 : FVec Ideal S3x111 .f32) (ix2 a b) := by
  blk_ext [iblk, idx t]

/-- Window 18's block is the prepared array it stages. -/
theorem iblk18_apply (t : Fin cfg0.N) (a : Fin 111) (b : Fin 111) :
    (iblk m c 18 t : FVec Ideal S111x111 .f32) (ix2 a b) = (V m c main_v37 : FVec Ideal S111x111 .f32) (ix2 a b) := by
  blk_ext [iblk, idx t]

/-- Window 19's block is the prepared array it stages. -/
theorem iblk19_apply (t : Fin cfg0.N) (a : Fin 111) (b : Fin 197) :
    (iblk m c 19 t : FVec Ideal S111x197 .f32) (ix2 a b) = (V m c main_v40 : FVec Ideal S111x197 .f32) (ix2 a b) := by
  blk_ext [iblk, idx t]

/-- Window 20's block is the prepared array it stages. -/
theorem iblk20_apply (t : Fin cfg0.N) (a : Fin 1) (b : Fin 197) :
    (iblk m c 20 t : FVec Ideal S1x197 .f32) (ix2 a b) = (V m c main_v46 : FVec Ideal S1x197 .f32) (ix2 a b) := by
  blk_ext [iblk, idx t]

/-- A read of a rectangle of a matrix, at its offsets. -/
theorem ld_apply {a b p q : Nat} (x : FVec Ideal ⟨2, ![a, b]⟩ .f32) (off : Fin 2 → Nat) (h) (i : Fin p) (j : Fin q)
    (I : Fin a) (J : Fin b) (hI : I.val = off 0 + i.val) (hJ : J.val = off 1 + j.val) :
    (View.ld (Val := Elt Ideal) (e' := .f32) x (Rect.unit (s := ⟨2, ![a, b]⟩) off ![p, q] h) : FVec Ideal ⟨2, ![p, q]⟩ .f32) (ix2 i j)
      = x (ix2 I J) := by
  refine congrArg x (funext fun k => Fin.ext ?_)
  match k with
  | ⟨0, _⟩ => show off 0 + 1 * i.val = I.val; omega
  | ⟨1, _⟩ => show off 1 + 1 * j.val = J.val; omega

/-- After point `t` the output block holds, at row `r` and output `o`, the network on the features' row. -/
theorem point (t : Fin cfg0.N) (r : Fin 2048) (o : Fin 197) (R : Fin 16384) (hR : R.val = t.val * 2048 + r.val)
    (hT : (argNet m c).Tame (argRow m c R)) :
    (out0_21 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t)
      (iblk m c 13 t) (iblk m c 14 t) (iblk m c 15 t) (iblk m c 16 t) (iblk m c 17 t) (iblk m c 18 t) (iblk m c 19 t)
      (iblk m c 20 t) : FVec Ideal S2048x197 .f32) (ix2 r o) = (argNet m c).out (argRow m c R) o := by
  unfold out0_21 k0_pay15 k0_pay16
  rw [View.canon_cons_unit_lit _ _ _ (by decide)]
  refine body_apply (argNet m c) (argRow m c R) hT r _ _ _ _ _ _ _ _ _ _ _ _ _ _ _ _ _ _ _ _ _ _ _ _ _ _ _ _
    ?_ ?_ ?_ ?_ ?_ ?_ ?_ ?_ ?_ ?_ ?_ ?_ ?_ ?_ ?_ ?_ ?_ ?_ ?_ ?_ ?_ ?_ ?_ ?_ ?_ ?_ ?_ ?_ o
  · exact fun k => (ld_apply _ _ _ r k r ⟨48 + k.val, by omega⟩ (by simp) (by simp)).trans (iblk0_apply m c t r _ R hR)
  · exact fun k => (ld_apply _ _ _ r k r ⟨71 + k.val, by omega⟩ (by simp) (by simp)).trans (iblk0_apply m c t r _ R hR)
  · exact fun k => (ld_apply _ _ _ r k r ⟨95 + k.val, by omega⟩ (by simp) (by simp)).trans (iblk0_apply m c t r _ R hR)
  · exact fun k => (ld_apply _ _ _ r k r ⟨1245 + k.val, by omega⟩ (by simp) (by simp)).trans (iblk0_apply m c t r _ R hR)
  · exact fun k => (ld_apply _ _ _ 0 k 0 ⟨k.val, by omega⟩ (by simp) (by simp)).trans (iblk3_apply m c t 0 _)
  · exact fun k => (ld_apply _ _ _ 0 k 0 ⟨k.val, by omega⟩ (by simp) (by simp)).trans (iblk4_apply m c t 0 _)
  · exact fun i k => (ld_apply _ _ _ i k ⟨i.val, by omega⟩ k (by simp) (by simp)).trans ((iblk6_apply m c t _ _).trans (v41_apply m c _ _))
  · exact fun i k => (ld_apply _ _ _ i k ⟨32 + i.val, by omega⟩ k (by simp) (by simp)).trans ((iblk6_apply m c t _ _).trans (v41_apply m c _ _))
  · exact fun k => (ld_apply _ _ _ 0 k 0 k (by simp) (by simp)).trans ((iblk7_apply m c t _ _).trans (v42_apply m c _))
  · exact fun k => (ld_apply _ _ _ 0 k 0 k (by simp) (by simp)).trans ((iblk9_apply m c t _ _).trans (v43_apply m c _))
  · exact fun i k => (ld_apply _ _ _ i k i k (by simp) (by simp)).trans ((iblk16_apply m c t _ _).trans (v29_apply m c _ _))
  · exact fun i k => (ld_apply _ _ _ i k i k (by simp) (by simp)).trans ((iblk18_apply m c t _ _).trans (v37_apply m c _ _))
  · exact fun i k => (ld_apply _ _ _ i k i k (by simp) (by simp)).trans ((iblk17_apply m c t _ _).trans (v21_apply m c _ _))
  · exact fun i k => (ld_apply _ _ _ i k i k (by simp) (by simp)).trans ((iblk15_apply m c t _ _).trans (v9_apply m c _ _))
  · exact fun i k => (ld_apply _ _ _ i k i k (by simp) (by simp)).trans ((iblk12_apply m c t _ _).trans (v12_apply m c _ _))
  · exact fun k => (ld_apply _ _ _ 0 k 0 k (by simp) (by simp)).trans ((iblk13_apply m c t _ _).trans (v45_apply m c _))
  · exact fun i k => (ld_apply _ _ _ i k i k (by simp) (by simp)).trans ((iblk10_apply m c t _ _).trans (v38_apply m c _ _))
  · exact fun k => (ld_apply _ _ _ 0 k 0 k (by simp) (by simp)).trans ((iblk11_apply m c t _ _).trans (v44_apply m c _))
  · exact fun k => (ld_apply _ _ _ 0 k 0 ⟨k.val, by omega⟩ (by simp) (by simp)).trans (iblk1_apply m c t 0 _)
  · exact fun k => (ld_apply _ _ _ 0 k 0 ⟨k.val, by omega⟩ (by simp) (by simp)).trans (iblk5_apply m c t 0 _)
  · exact fun k => (ld_apply _ _ _ 0 k 0 ⟨k.val, by omega⟩ (by simp) (by simp)).trans (iblk2_apply m c t 0 _)
  · exact fun i k => (ld_apply _ _ _ i k ⟨i.val, by omega⟩ k (by simp) (by simp)).trans ((iblk14_apply m c t _ _).trans (v0_apply m c _ _))
  · exact fun i k => (ld_apply _ _ _ i k ⟨69 + i.val, by omega⟩ k (by simp) (by simp)).trans ((iblk14_apply m c t _ _).trans (v0_apply m c _ _))
  · exact fun i k => (ld_apply _ _ _ i k ⟨101 + i.val, by omega⟩ k (by simp) (by simp)).trans ((iblk14_apply m c t _ _).trans (v0_apply m c _ _))
  · exact fun i k => (ld_apply _ _ _ i k ⟨133 + i.val, by omega⟩ k (by simp) (by simp)).trans ((iblk14_apply m c t _ _).trans (v0_apply m c _ _))
  · exact fun i k => (ld_apply _ _ _ i k ⟨165 + i.val, by omega⟩ k (by simp) (by simp)).trans ((iblk14_apply m c t _ _).trans (v0_apply m c _ _))
  · exact fun i k => (ld_apply _ _ _ i k i k (by simp) (by simp)).trans ((iblk19_apply m c t _ _).trans (v40_apply m c _ _))
  · exact fun k => (ld_apply _ _ _ 0 k 0 k (by simp) (by simp)).trans ((iblk20_apply m c t _ _).trans (v46_apply m c _))

end Cert.Proof

end
-- ==== Proof.Final.lean ====
/- What the result array holds after the run: each row is the network on the features' row. -/
module

public import Idealize.ShloMosaic.Lib.Pipeline.ValueKit
public import proofs.«01_k».proof.Proof.Point

@[expose] public section

set_option maxRecDepth 16384

noncomputable section

namespace Cert.Proof

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Row `r` of output block `t` is row `2048 t + r` of the result array. -/
theorem emb_row (t : Fin cfg0.N) (r : Fin 2048) (o : Fin 197) (R : Fin 16384) (hR : R.val = t.val * 2048 + r.val) :
    (win0_21.blk t).view.emb (ix2 r o) = (ix2 R o : S16384x197.Idx) := by
  blk_ext [idx t]

/-- What point `t` leaves at a place of its output block is the result at the place's position in the array. -/
theorem point_result (hT : ∀ r, (argNet m c).Tame (argRow m c r)) (t : Fin cfg0.N) (y : S2048x197.Idx) :
    (out0_21 (F := Ideal) (iblk m c 0 t) (iblk m c 1 t) (iblk m c 2 t) (iblk m c 3 t) (iblk m c 4 t) (iblk m c 5 t)
      (iblk m c 6 t) (iblk m c 7 t) (iblk m c 8 t) (iblk m c 9 t) (iblk m c 10 t) (iblk m c 11 t) (iblk m c 12 t)
      (iblk m c 13 t) (iblk m c 14 t) (iblk m c 15 t) (iblk m c 16 t) (iblk m c 17 t) (iblk m c 18 t) (iblk m c 19 t)
      (iblk m c 20 t) : FVec Ideal S2048x197 .f32) y = result m c ((win0_21.blk t).view.emb y) := by
  obtain ⟨r, o, rfl⟩ : ∃ (r : Fin 2048) (o : Fin 197), y = ix2 r o := by
    idx_vars y
    exact ⟨_, _, rfl⟩
  have ht : t.val < 8 := t.isLt
  have hR : t.val * 2048 + r.val < 16384 := by omega
  rw [emb_row t r o ⟨_, hR⟩ rfl]
  exact point m c t r o ⟨_, hR⟩ rfl (hT _)

/-- The result array after the run is the network on each row. -/
theorem final (hT : ∀ r, (argNet m c).Tame (argRow m c r)) : (dats m 0 c).arrAt 21 (cfgs 0).N = result m c := by
  refine (dats m 0 c).arrAt_eq_of_covers 21 _ (by decide +kernel) fun t _ y => ?_
  blk_simp
  rw [after0_21]
  exact point_result m c hT t y

end Cert.Proof

end
-- ==== Proof.Equation.lean ====
/- The equation: what the reference computes from the kernel's arguments is what the kernel's result array holds. -/
module

public import proofs.«01_k».proof.Defs
public import proofs.«01_k».proof.Proof.Final

@[expose] public section

set_option maxRecDepth 16384

noncomputable section

namespace Cert.Proof

open Idealize.ShloMosaic Idealize.ShloMosaic.TcCoe Idealize.SL.Sem

variable (m : (ℓ : Loc Cert.KernelIdeal.nD Cert.KernelIdeal.τ Cert.KernelIdeal.sig) → Buf (Elt Ideal) ℓ)
  (c : Dev Cert.KernelIdeal.nD)

/-- The shape relations of the precondition, found by instance search. -/
local instance : Cert.Pre_tame.Facts := tame_facts

/-- Under the precondition the row numbers in the features lie in [0, 1). -/
theorem args_ids (h : Cert.Pre_KernelIdeal_tame (hPre_tame := tame_facts) m) :
    Ids (m ((c.tc : Thread Cert.KernelIdeal.nD Cert.KernelIdeal.τ).loc Cert.KernelIdeal.main_arg0)) :=
  Masks.ids (h c)

/-- Under the precondition every row is tame. -/
theorem args_tame (h : Cert.Pre_KernelIdeal_tame (hPre_tame := tame_facts) m) (r : Fin 16384) :
    (argNet m c).Tame (argRow m c r) :=
  Masks.tame (h c) r

/-- The reference's composed result over the kernel's arguments is the network on each row. -/
theorem reference_result (h : Cert.Pre_KernelIdeal_tame (hPre_tame := tame_facts) m) :
    (Cert.ReferenceIdeal.Read.val_main_v106 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)) : FVec Ideal Cert.KernelIdeal.S16384x197 .f32) = result m c := by
  funext i
  idx_vars i
  exact v106_apply _ _ _ _ _ _ _ _ _ _ _ _ _ _ _ (args_ids m c h) _ (args_tame m c h _).count _

/-- The kernel's result array after the run is the reference's composed result over the same arguments. -/
theorem kernel_result (h : Cert.Pre_KernelIdeal_tame (hPre_tame := tame_facts) m) :
    (Cert.KernelIdeal.Gen.dats m 0 c).arrAt 21 (Cert.KernelIdeal.cfgs 0).N
      = Cert.ReferenceIdeal.Read.val_main_v106 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)) :=
  (final m c (args_tame m c h)).trans (reference_result m c h).symm

end Cert.Proof

end
-- ==== Proof.lean ====
/- The certificate's claims, put together from the modules under proof/Proof/. -/
module

public import proofs.«01_k».proof.Defs
public import proofs.«01_k».proof.Proof.KernelFrame
public import proofs.«01_k».proof.Proof.KernelIdealFrame
public import proofs.«01_k».proof.Proof.ReferenceFrame
public import proofs.«01_k».proof.Proof.Equation

@[expose] public section

set_option maxRecDepth 16384

noncomputable section

namespace Cert.Proof

open Idealize.ShloMosaic Idealize.ShloMosaic.TcCoe Idealize.SL.Sem

/-- From arguments that agree and meet the precondition, the kernel's result array and the reference's end equal, and
    both programs leave their arguments unchanged. -/
theorem equation : Cert.algebraic_KernelIdeal_ReferenceIdeal_pre_tame (hKernelIdeal := Cert.KernelIdeal.Gen.facts)
    (hReferenceIdeal := Cert.ReferenceIdeal.Gen.facts) (hPre_tame := tame_facts) := by
  intro m g m' g' hpre hagree
  refine ⟨fun c => result m c, ?_, ?_⟩
  · exact (θ_run Cert.KernelIdeal.defs _ _).mono
      (fun r h c => ⟨((h.1 c).1 21).trans (final m c (args_tame m c hpre)), h.2 c⟩)
      (θ_run_and (Cert.KernelIdeal.Gen.run_main m g) (Cert.KernelIdeal.Gen.unchanged m g))
  · refine (θ_run Cert.ReferenceIdeal.defs _ _).mono (fun r h c => ⟨(h c).1.trans ?_, (h c).2⟩)
      (Cert.ReferenceIdeal.Value.run m' g')
    refine (Cert.ReferenceIdeal.Read.val_main_v106_eq _).trans ?_
    obtain ⟨a0, a1, a2, a3, a4, a5, a6, a7, a8, a9, a10, a11, a12, a13, a14, a15⟩ := hagree c
    simp only [StableHlo.launchContents_devRef, a0, a1, a2, a3, a4, a5, a6, a7, a8, a9, a10, a11, a12, a13, a14, a15]
    exact reference_result m c hpre

/-- Every run of the kernel, of its idealization and of the reference ends with its arguments unchanged and every
    counter at zero; the idealization is the kernel's own text read over the extended reals; under the precondition the
    idealization's result is the reference's. -/
theorem claim : Cert.Claim :=
  ⟨Cert.Kernel.Gen.facts, Cert.KernelIdeal.Gen.facts, Cert.ReferenceIdeal.Gen.facts, tame_facts,
    fun m g _ => Cert.Kernel.Gen.frame m g, fun m g _ => Cert.KernelIdeal.Gen.frame m g,
    fun m g _ => Cert.KernelIdeal.Gen.frame m g, reference_frame, fun m g _ => reference_frame m g trivial, trivial, equation⟩

end Cert.Proof

end
